-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x50x1 : Shape := ⟨3, ![1024, 50, 1]⟩
abbrev S1x256 : Shape := ⟨2, ![1, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩
abbrev S1024x50 : Shape := ⟨2, ![1024, 50]⟩
abbrev S1024x64 : Shape := ⟨2, ![1024, 64]⟩
abbrev S256x128 : Shape := ⟨2, ![256, 128]⟩
abbrev S128 : Shape := ⟨1, ![128]⟩
abbrev S1x128 : Shape := ⟨2, ![1, 128]⟩
abbrev S1x1 : Shape := ⟨2, ![1, 1]⟩
abbrev S1024x128 : Shape := ⟨2, ![1024, 128]⟩
abbrev S1024x10 : Shape := ⟨2, ![1024, 10]⟩
abbrev S128x64 : Shape := ⟨2, ![128, 64]⟩
abbrev S128x128 : Shape := ⟨2, ![128, 128]⟩
abbrev S64x1 : Shape := ⟨2, ![64, 1]⟩
abbrev S128x1 : Shape := ⟨2, ![128, 1]⟩
abbrev S128x256 : Shape := ⟨2, ![128, 256]⟩

abbrev nBuf : Space → Nat
  | .hbm => 28
  | .vmem => 13
  | .smem => 0
  | _ => 0

abbrev bufTy : (tb : Table) → Fin (tcTables nBuf tb) → BufTy
  | .hbm, ⟨0, _⟩ => ⟨S1024x50x1, .f32⟩
  | .hbm, ⟨1, _⟩ => ⟨S1x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S_, .f32⟩
  | .hbm, ⟨10, _⟩ => ⟨S1024x50, .f32⟩
  | .hbm, ⟨11, _⟩ => ⟨S_, .i32⟩
  | .hbm, ⟨12, _⟩ => ⟨S_, .f32⟩
  | .hbm, ⟨13, _⟩ => ⟨S1024x64, .f32⟩
  | .hbm, ⟨14, _⟩ => ⟨S_, .i32⟩
  | .hbm, ⟨15, _⟩ => ⟨S_, .f32⟩
  | .hbm, ⟨16, _⟩ => ⟨S256x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x1, .f32⟩
  | .hbm, ⟨26, _⟩ => ⟨S1024x128, .f32⟩
  | .hbm, ⟨27, _⟩ => ⟨S1024x10, .f32⟩
  | .local _ .vmem, ⟨0, _⟩ => ⟨S128x64, .f32⟩
  | .local _ .vmem, ⟨1, _⟩ => ⟨S128x64, .f32⟩
  | .local _ .vmem, ⟨2, _⟩ => ⟨S1x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S1x1, .f32⟩
  | .local _ .vmem, ⟨11, _⟩ => ⟨S128x128, .f32⟩
  | .local _ .vmem, ⟨12, _⟩ => ⟨S128x128, .f32⟩
  | _, _ => ⟨S1024x50x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_c : Ref sig .tc := ⟨.hbm, 11, rfl⟩
abbrev main_call0_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_call1_v0 : Ref sig .tc := ⟨.hbm, 15, rfl⟩
abbrev main_call0_v2 : Ref sig .tc := ⟨.hbm, 16, rfl⟩
abbrev main_call0_c_1 : Ref sig .tc := ⟨.hbm, 17, rfl⟩
abbrev main_call0_call2_v0 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c2_i32 : BitVec 32 := 2#32
  let c48_i32 : BitVec 32 := 48#32
  let v122 : BitVec 32 := Scalar.addi c2_i32 c48_i32
  let c1_i32_50 : BitVec 32 := 1#32
  ⟨c2_i32, v122, c1_i32_50⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1024x50x1 : Shape := ⟨3, ![1024, 50, 1]⟩
abbrev S1x256 : Shape := ⟨2, ![1, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩
abbrev S5 : Shape := ⟨1, ![5]⟩
abbrev S1024 : Shape := ⟨1, ![1024]⟩
abbrev S1024x256 : Shape := ⟨2, ![1024, 256]⟩
abbrev S1024x64x256 : Shape := ⟨3, ![1024, 64, 256]⟩
abbrev S50x1024x1 : Shape := ⟨3, ![50, 1024, 1]⟩
abbrev S1x1024x1 : Shape := ⟨3, ![1, 1024, 1]⟩
abbrev S1024x1 : Shape := ⟨2, ![1024, 1]⟩
abbrev S1x5 : Shape := ⟨2, ![1, 5]⟩
abbrev S1024x5 : Shape := ⟨2, ![1024, 5]⟩
abbrev S1024x5x1 : Shape := ⟨3, ![1024, 5, 1]⟩
abbrev S1 : Shape := ⟨1, ![1]⟩
abbrev S1x1x1 : Shape := ⟨3, ![1, 1, 1]⟩
abbrev S1024x5x256 : Shape := ⟨3, ![1024, 5, 256]⟩
abbrev S1024x2 : Shape := ⟨2, ![1024, 2]⟩
abbrev S1024x10 : Shape := ⟨2, ![1024, 10]⟩
abbrev S1x10 : Shape := ⟨2, ![1, 10]⟩

abbrev nBuf : Space → Nat
  | .hbm => 245
  | .vmem => 0
  | .smem => 0
  | _ => 0

abbrev hbmTy0_0 (i : Nat) : BufTy := match i % 128 with
  | 0 => ⟨S1024x50x1, .f32⟩
  | 1 => ⟨S1x256, .f32⟩
  | 2 => ⟨S256, .f32⟩
  | 3 => ⟨S256x256, .f32⟩
  | 4 => ⟨S256, .f32⟩
  | 5 => ⟨S256, .f32⟩
  | 6 => ⟨S256, .f32⟩
  | 7 => ⟨S256x10, .f32⟩
  | 8 => ⟨S10, .f32⟩
  | 9 => ⟨S_, .f32⟩
  | 10 => ⟨S5, .i32⟩
  | 11 => ⟨S_, .i32⟩
  | 12 => ⟨S5, .i32⟩
  | 13 => ⟨S5, .i32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1024, .i32⟩
  | 21 => ⟨S_, .f32⟩
  | 22 => ⟨S1024x256, .f32⟩
  | 23 => ⟨S_, .f32⟩
  | 24 => ⟨S1024x64x256, .f32⟩
  | 25 => ⟨S_, .f32⟩
  | 26 => ⟨S1024, .f32⟩
  | 27 => ⟨S50x1024x1, .f32⟩
  | 28 => ⟨S_, .i32⟩
  | 29 => ⟨S50x1024x1, .f32⟩
  | 30 => ⟨S1x256, .f32⟩
  | 31 => ⟨S256, .f32⟩
  | 32 => ⟨S5, .i32⟩
  | 33 => ⟨S_, .f32⟩
  | 34 => ⟨S256x256, .f32⟩
  | 35 => ⟨S256, .f32⟩
  | 36 => ⟨S256, .f32⟩
  | 37 => ⟨S256, .f32⟩
  | 38 => ⟨S1024, .i32⟩
  | 39 => ⟨S_, .i32⟩
  | 40 => ⟨S1024x256, .f32⟩
  | 41 => ⟨S1024x64x256, .f32⟩
  | 42 => ⟨S1024, .f32⟩
  | 43 => ⟨S_, .i32⟩
  | 44 => ⟨S_, .i1⟩
  | 45 => ⟨S_, .i32⟩
  | 46 => ⟨S_, .i32⟩
  | 47 => ⟨S1x1024x1, .f32⟩
  | 48 => ⟨S1024x1, .f32⟩
  | 49 => ⟨S1024x256, .f32⟩
  | 50 => ⟨S1x256, .f32⟩
  | 51 => ⟨S1024x256, .f32⟩
  | 52 => ⟨S1024x256, .f32⟩
  | 53 => ⟨S1024x256, .f32⟩
  | 54 => ⟨S1024, .f32⟩
  | 55 => ⟨S1024, .i32⟩
  | 56 => ⟨S_, .i32⟩
  | 57 => ⟨S_, .i32⟩
  | 58 => ⟨S_, .i32⟩
  | 59 => ⟨S1024, .i32⟩
  | 60 => ⟨S1024, .i32⟩
  | 61 => ⟨S_, .i32⟩
  | 62 => ⟨S1024, .i32⟩
  | 63 => ⟨S1024, .i32⟩
  | 64 => ⟨S1024x1, .i32⟩
  | 65 => ⟨S1x5, .i32⟩
  | 66 => ⟨S1024x5, .i32⟩
  | 67 => ⟨S1024x5, .i32⟩
  | 68 => ⟨S1024x5, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S1024x5, .i32⟩
  | 76 => ⟨S1024x5, .i32⟩
  | 77 => ⟨S_, .i32⟩
  | 78 => ⟨S1024x5, .i32⟩
  | 79 => ⟨S1024x5, .i1⟩
  | 80 => ⟨S_, .i32⟩
  | 81 => ⟨S1024x5, .i32⟩
  | 82 => ⟨S1024x5, .i1⟩
  | 83 => ⟨S_, .i32⟩
  | 84 => ⟨S_, .i1⟩
  | 85 => ⟨S1024x5, .i1⟩
  | 86 => ⟨S1024x5, .i1⟩
  | 87 => ⟨S1024x5, .i1⟩
  | 88 => ⟨S1024x5, .i32⟩
  | 89 => ⟨S1024x5, .i32⟩
  | 90 => ⟨S1024x5, .i32⟩
  | 91 => ⟨S1024x5, .f32⟩
  | 92 => ⟨S1024x1, .f32⟩
  | 93 => ⟨S1024x5, .f32⟩
  | 94 => ⟨S1024x5, .f32⟩
  | 95 => ⟨S1024x5, .f32⟩
  | 96 => ⟨S1024x5, .f32⟩
  | 97 => ⟨S_, .f32⟩
  | 98 => ⟨S1024x5, .f32⟩
  | 99 => ⟨S1024x5, .f32⟩
  | 100 => ⟨S_, .f32⟩
  | 101 => ⟨S1024, .f32⟩
  | 102 => ⟨S1024x1, .f32⟩
  | 103 => ⟨S1024x5, .f32⟩
  | 104 => ⟨S1024x5, .f32⟩
  | 105 => ⟨S_, .f32⟩
  | 106 => ⟨S1024x5, .f32⟩
  | 107 => ⟨S1024x5, .i1⟩
  | 108 => ⟨S1024x5, .f32⟩
  | 109 => ⟨S_, .f32⟩
  | 110 => ⟨S_, .f32⟩
  | 111 => ⟨S1024x5, .f32⟩
  | 112 => ⟨S1024x5, .f32⟩
  | 113 => ⟨S_, .f32⟩
  | 114 => ⟨S1024, .f32⟩
  | 115 => ⟨S1024x1, .f32⟩
  | 116 => ⟨S1024x5, .f32⟩
  | 117 => ⟨S1024x5, .f32⟩
  | 118 => ⟨S1024x5x1, .i32⟩
  | 119 => ⟨S_, .i32⟩
  | 120 => ⟨S1024x5x1, .i32⟩
  | 121 => ⟨S1024x5x1, .i1⟩
  | 122 => ⟨S_, .i32⟩
  | 123 => ⟨S1024x5x1, .i32⟩
  | 124 => ⟨S1024x5x1, .i32⟩
  | 125 => ⟨S1024x5x1, .i32⟩
  | 126 => ⟨S1, .i32⟩
  | 127 => ⟨S_, .i32⟩
  | _ => ⟨S1024x50x1, .f32⟩

abbrev hbmTy0_1 (i : Nat) : BufTy := match i % 128 with
  | 0 => ⟨S1024x5x1, .i32⟩
  | 1 => ⟨S1024x5x1, .i1⟩
  | 2 => ⟨S1x1x1, .i32⟩
  | 3 => ⟨S1024x5x1, .i32⟩
  | 4 => ⟨S1024x5x1, .i1⟩
  | 5 => ⟨S1024x5x1, .i1⟩
  | 6 => ⟨S_, .i1⟩
  | 7 => ⟨S1024x5, .i1⟩
  | 8 => ⟨S1024x5x256, .f32⟩
  | 9 => ⟨S1024x5x256, .i1⟩
  | 10 => ⟨S_, .f32⟩
  | 11 => ⟨S1024x5x256, .f32⟩
  | 12 => ⟨S1024x5x256, .f32⟩
  | 13 => ⟨S1024x5x1, .f32⟩
  | 14 => ⟨S1024x5x256, .f32⟩
  | 15 => ⟨S1024x5x256, .f32⟩
  | 16 => ⟨S_, .f32⟩
  | 17 => ⟨S1024x256, .f32⟩
  | 18 => ⟨S1024x256, .f32⟩
  | 19 => ⟨S1024x256, .f32⟩
  | 20 => ⟨S1024x256, .f32⟩
  | 21 => ⟨S1024x256, .f32⟩
  | 22 => ⟨S1024x256, .f32⟩
  | 23 => ⟨S1x256, .f32⟩
  | 24 => ⟨S1024x256, .f32⟩
  | 25 => ⟨S1024x256, .f32⟩
  | 26 => ⟨S1024x256, .f32⟩
  | 27 => ⟨S_, .f32⟩
  | 28 => ⟨S1024, .f32⟩
  | 29 => ⟨S1024x1, .f32⟩
  | 30 => ⟨S_, .f32⟩
  | 31 => ⟨S1024x1, .f32⟩
  | 32 => ⟨S1024x1, .f32⟩
  | 33 => ⟨S_, .i32⟩
  | 34 => ⟨S_, .f32⟩
  | 35 => ⟨S1024, .f32⟩
  | 36 => ⟨S1024x1, .f32⟩
  | 37 => ⟨S_, .f32⟩
  | 38 => ⟨S1024x1, .f32⟩
  | 39 => ⟨S1024x1, .f32⟩
  | 40 => ⟨S1024x256, .f32⟩
  | 41 => ⟨S1024x256, .f32⟩
  | 42 => ⟨S1024x256, .f32⟩
  | 43 => ⟨S_, .f32⟩
  | 44 => ⟨S_, .f32⟩
  | 45 => ⟨S_, .f32⟩
  | 46 => ⟨S_, .f32⟩
  | 47 => ⟨S1024, .f32⟩
  | 48 => ⟨S1024x1, .f32⟩
  | 49 => ⟨S1024x1, .f32⟩
  | 50 => ⟨S1024x1, .f32⟩
  | 51 => ⟨S_, .f32⟩
  | 52 => ⟨S_, .i1⟩
  | 53 => ⟨S_, .f32⟩
  | 54 => ⟨S_, .f32⟩
  | 55 => ⟨S1024x1, .f32⟩
  | 56 => ⟨S1024x1, .f32⟩
  | 57 => ⟨S1024x256, .f32⟩
  | 58 => ⟨S1024x256, .f32⟩
  | 59 => ⟨S_, .f32⟩
  | 60 => ⟨S1024x1, .f32⟩
  | 61 => ⟨S1024x1, .f32⟩
  | 62 => ⟨S1024x1, .f32⟩
  | 63 => ⟨S1024x256, .f32⟩
  | 64 => ⟨S1024x256, .f32⟩
  | 65 => ⟨S1x256, .f32⟩
  | 66 => ⟨S1024x256, .f32⟩
  | 67 => ⟨S1024x256, .f32⟩
  | 68 => ⟨S1x256, .f32⟩
  | 69 => ⟨S1024x256, .f32⟩
  | 70 => ⟨S1024x256, .f32⟩
  | 71 => ⟨S1024, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i32⟩
  | 78 => ⟨S1024, .i32⟩
  | 79 => ⟨S_, .i32⟩
  | 80 => ⟨S1024, .i32⟩
  | 81 => ⟨S1024, .i1⟩
  | 82 => ⟨S_, .i32⟩
  | 83 => ⟨S1024, .i32⟩
  | 84 => ⟨S1024, .i32⟩
  | 85 => ⟨S1024, .i32⟩
  | 86 => ⟨S1024x1, .i32⟩
  | 87 => ⟨S1024x1, .i32⟩
  | 88 => ⟨S1024x2, .i32⟩
  | 89 => ⟨S1024x64x256, .f32⟩
  | 90 => ⟨S_, .f32⟩
  | 91 => ⟨S1024, .f32⟩
  | 92 => ⟨S1024, .f32⟩
  | 93 => ⟨S_, .f32⟩
  | 94 => ⟨S_, .f32⟩
  | 95 => ⟨S1024, .f32⟩
  | 96 => ⟨S1024, .f32⟩
  | 97 => ⟨S_, .f32⟩
  | 98 => ⟨S1024, .f32⟩
  | 99 => ⟨S1024, .i1⟩
  | 100 => ⟨S_, .f32⟩
  | 101 => ⟨S1024, .f32⟩
  | 102 => ⟨S1024, .i1⟩
  | 103 => ⟨S_, .f32⟩
  | 104 => ⟨S_, .i1⟩
  | 105 => ⟨S1024, .i1⟩
  | 106 => ⟨S1024, .i1⟩
  | 107 => ⟨S1024, .i1⟩
  | 108 => ⟨S1024, .f32⟩
  | 109 => ⟨S1024, .f32⟩
  | 110 => ⟨S1024, .f32⟩
  | 111 => ⟨S_, .i32⟩
  | 112 => ⟨S_, .i32⟩
  | 113 => ⟨S1024x10, .f32⟩
  | 114 => ⟨S1x10, .f32⟩
  | 115 => ⟨S1024x10, .f32⟩
  | 116 => ⟨S1024x10, .f32⟩
  | _ => ⟨S1024x50x1, .f32⟩

abbrev hbmTy (i : Nat) : BufTy := match i / 128 with
  | 0 => hbmTy0_0 i
  | 1 => hbmTy0_1 i
  | _ => ⟨S1024x50x1, .f32⟩

abbrev bufTy : (tb : Table) → Fin (tcTables nBuf tb) → BufTy
  | .hbm, ⟨i, _⟩ => hbmTy i
  | _, _ => ⟨S1024x50x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev main_v12_3 : Ref sig .tc := ⟨.hbm, 32, rfl⟩
abbrev main_v12_4 : Ref sig .tc := ⟨.hbm, 33, rfl⟩
abbrev main_v12_5 : Ref sig .tc := ⟨.hbm, 34, rfl⟩
abbrev main_v12_6 : Ref sig .tc := ⟨.hbm, 35, rfl⟩
abbrev main_v12_7 : Ref sig .tc := ⟨.hbm, 36, rfl⟩
abbrev main_v12_8 : Ref sig .tc := ⟨.hbm, 37, rfl⟩
abbrev main_v12_9 : Ref sig .tc := ⟨.hbm, 38, rfl⟩
abbrev main_v12_10 : Ref sig .tc := ⟨.hbm, 39, rfl⟩
abbrev main_v12_11 : Ref sig .tc := ⟨.hbm, 40, rfl⟩
abbrev main_v12_12 : Ref sig .tc := ⟨.hbm, 41, rfl⟩
abbrev main_v12_13 : Ref sig .tc := ⟨.hbm, 42, rfl⟩
abbrev main_while0c_c_18 : Ref sig .tc := ⟨.hbm, 43, rfl⟩
abbrev main_while0c_v17 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_v0 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_v23 : Ref sig .tc := ⟨.hbm, 54, rfl⟩
abbrev main_while0b_v24 : Ref sig .tc := ⟨.hbm, 55, rfl⟩
abbrev main_while0b_c_18 : Ref sig .tc := ⟨.hbm, 56, rfl⟩
abbrev main_while0b_c_19 : Ref sig .tc := ⟨.hbm, 57, rfl⟩
abbrev main_while0b_call1_v0 : Ref sig .tc := ⟨.hbm, 58, rfl⟩
abbrev main_while0b_call1_v1 : Ref sig .tc := ⟨.hbm, 59, rfl⟩
abbrev main_while0b_call1_v2 : Ref sig .tc := ⟨.hbm, 60, rfl⟩
abbrev main_while0b_call1_v3 : Ref sig .tc := ⟨.hbm, 61, rfl⟩
abbrev main_while0b_call1_v4 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_c_20 : Ref sig .tc := ⟨.hbm, 69, rfl⟩
abbrev main_while0b_call2_v0 : Ref sig .tc := ⟨.hbm, 70, rfl⟩
abbrev main_while0b_call2_c : Ref sig .tc := ⟨.hbm, 71, rfl⟩
abbrev main_while0b_call2_v1 : Ref sig .tc := ⟨.hbm, 72, rfl⟩
abbrev main_while0b_call2_c_0 : Ref sig .tc := ⟨.hbm, 73, rfl⟩
abbrev main_while0b_call2_v2 : Ref sig .tc := ⟨.hbm, 74, rfl⟩
abbrev main_while0b_call2_v3 : Ref sig .tc := ⟨.hbm, 75, rfl⟩
abbrev main_while0b_call2_v4 : Ref sig .tc := ⟨.hbm, 76, rfl⟩
abbrev main_while0b_call2_c_1 : Ref sig .tc := ⟨.hbm, 77, rfl⟩
abbrev main_while0b_call2_v5 : Ref sig .tc := ⟨.hbm, 78, rfl⟩
abbrev main_while0b_call2_v6 : Ref sig .tc := ⟨.hbm, 79, rfl⟩
abbrev main_while0b_call2_c_2 : Ref sig .tc := ⟨.hbm, 80, rfl⟩
abbrev main_while0b_call2_v7 : Ref sig .tc := ⟨.hbm, 81, rfl⟩
abbrev main_while0b_call2_v8 : Ref sig .tc := ⟨.hbm, 82, rfl⟩
abbrev main_while0b_call2_c_3 : Ref sig .tc := ⟨.hbm, 83, rfl⟩
abbrev main_while0b_call2_v9 : Ref sig .tc := ⟨.hbm, 84, rfl⟩
abbrev main_while0b_call2_v10 : Ref sig .tc := ⟨.hbm, 85, rfl⟩
abbrev main_while0b_call2_v11 : Ref sig .tc := ⟨.hbm, 86, rfl⟩
abbrev main_while0b_call2_v12 : Ref sig .tc := ⟨.hbm, 87, rfl⟩
abbrev main_while0b_call2_v13 : Ref sig .tc := ⟨.hbm, 88, rfl⟩
abbrev main_while0b_call2_v14 : Ref sig .tc := ⟨.hbm, 89, rfl⟩
abbrev main_while0b_v31 : Ref sig .tc := ⟨.hbm, 90, rfl⟩
abbrev main_while0b_v32 : Ref sig .tc := ⟨.hbm, 91, rfl⟩
abbrev main_while0b_v33 : Ref sig .tc := ⟨.hbm, 92, rfl⟩
abbrev main_while0b_v34 : Ref sig .tc := ⟨.hbm, 93, rfl⟩
abbrev main_while0b_v35 : Ref sig .tc := ⟨.hbm, 94, rfl⟩
abbrev main_while0b_v36 : Ref sig .tc := ⟨.hbm, 95, rfl⟩
abbrev main_while0b_v37 : Ref sig .tc := ⟨.hbm, 96, rfl⟩
abbrev main_while0b_cst_21 : Ref sig .tc := ⟨.hbm, 97, rfl⟩
abbrev main_while0b_v38 : Ref sig .tc := ⟨.hbm, 98, rfl⟩
abbrev main_while0b_v39 : Ref sig .tc := ⟨.hbm, 99, rfl⟩
abbrev main_while0b_cst_22 : Ref sig .tc := ⟨.hbm, 100, rfl⟩
abbrev main_while0b_v40 : Ref sig .tc := ⟨.hbm, 101, rfl⟩
abbrev main_while0b_v41 : Ref sig .tc := ⟨.hbm, 102, rfl⟩
abbrev main_while0b_v42 : Ref sig .tc := ⟨.hbm, 103, rfl⟩
abbrev main_while0b_v43 : Ref sig .tc := ⟨.hbm, 104, rfl⟩
abbrev main_while0b_cst_23 : Ref sig .tc := ⟨.hbm, 105, rfl⟩
abbrev main_while0b_v44 : Ref sig .tc := ⟨.hbm, 106, rfl⟩
abbrev main_while0b_v45 : Ref sig .tc := ⟨.hbm, 107, rfl⟩
abbrev main_while0b_v46 : Ref sig .tc := ⟨.hbm, 108, rfl⟩
abbrev main_while0b_cst_24 : Ref sig .tc := ⟨.hbm, 109, rfl⟩
abbrev main_while0b_call3_v0 : Ref sig .tc := ⟨.hbm, 110, rfl⟩
abbrev main_while0b_call3_v1 : Ref sig .tc := ⟨.hbm, 111, rfl⟩
abbrev main_while0b_v47 : Ref sig .tc := ⟨.hbm, 112, rfl⟩
abbrev main_while0b_cst_25 : Ref sig .tc := ⟨.hbm, 113, rfl⟩
abbrev main_while0b_v48 : Ref sig .tc := ⟨.hbm, 114, rfl⟩
abbrev main_while0b_v49 : Ref sig .tc := ⟨.hbm, 115, rfl⟩
abbrev main_while0b_v50 : Ref sig .tc := ⟨.hbm, 116, rfl⟩
abbrev main_while0b_v51 : Ref sig .tc := ⟨.hbm, 117, rfl⟩
abbrev main_while0b_v52 : Ref sig .tc := ⟨.hbm, 118, rfl⟩
abbrev main_while0b_call4_c : Ref sig .tc := ⟨.hbm, 119, rfl⟩
abbrev main_while0b_call4_v0 : Ref sig .tc := ⟨.hbm, 120, rfl⟩
abbrev main_while0b_call4_v1 : Ref sig .tc := ⟨.hbm, 121, rfl⟩
abbrev main_while0b_call4_c_0 : Ref sig .tc := ⟨.hbm, 122, rfl⟩
abbrev main_while0b_call4_v2 : Ref sig .tc := ⟨.hbm, 123, rfl⟩
abbrev main_while0b_call4_v3 : Ref sig .tc := ⟨.hbm, 124, rfl⟩
abbrev main_while0b_call4_v4 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_call4_v5 : Ref sig .tc := ⟨.hbm, 128, rfl⟩
abbrev main_while0b_call4_v6 : Ref sig .tc := ⟨.hbm, 129, rfl⟩
abbrev main_while0b_call4_v7 : Ref sig .tc := ⟨.hbm, 130, rfl⟩
abbrev main_while0b_call4_v8 : Ref sig .tc := ⟨.hbm, 131, rfl⟩
abbrev main_while0b_call4_v9 : Ref sig .tc := ⟨.hbm, 132, rfl⟩
abbrev main_while0b_call4_v10 : Ref sig .tc := ⟨.hbm, 133, rfl⟩
abbrev main_while0b_call4_c_3 : Ref sig .tc := ⟨.hbm, 134, rfl⟩
abbrev main_while0b_call4_v11 : Ref sig .tc := ⟨.hbm, 135, rfl⟩
abbrev main_while0b_call4_v12 : Ref sig .tc := ⟨.hbm, 136, rfl⟩
abbrev main_while0b_call4_v13 : Ref sig .tc := ⟨.hbm, 137, rfl⟩
abbrev main_while0b_call4_cst : Ref sig .tc := ⟨.hbm, 138, rfl⟩
abbrev main_while0b_call4_v14 : Ref sig .tc := ⟨.hbm, 139, rfl⟩
abbrev main_while0b_v53 : Ref sig .tc := ⟨.hbm, 140, rfl⟩
abbrev main_while0b_v54 : Ref sig .tc := ⟨.hbm, 141, rfl⟩
abbrev main_while0b_v55 : Ref sig .tc := ⟨.hbm, 142, rfl⟩
abbrev main_while0b_v56 : Ref sig .tc := ⟨.hbm, 143, rfl⟩
abbrev main_while0b_cst_26 : Ref sig .tc := ⟨.hbm, 144, rfl⟩
abbrev main_while0b_v57 : Ref sig .tc := ⟨.hbm, 145, rfl⟩
abbrev main_while0b_v58 : Ref sig .tc := ⟨.hbm, 146, rfl⟩
abbrev main_while0b_v59 : Ref sig .tc := ⟨.hbm, 147, rfl⟩
abbrev main_while0b_v60 : Ref sig .tc := ⟨.hbm, 148, rfl⟩
abbrev main_while0b_v61 : Ref sig .tc := ⟨.hbm, 149, rfl⟩
abbrev main_while0b_v62 : Ref sig .tc := ⟨.hbm, 150, rfl⟩
abbrev main_while0b_v63 : Ref sig .tc := ⟨.hbm, 151, rfl⟩
abbrev main_while0b_v64 : Ref sig .tc := ⟨.hbm, 152, rfl⟩
abbrev main_while0b_v65 : Ref sig .tc := ⟨.hbm, 153, rfl⟩
abbrev main_while0b_v66 : Ref sig .tc := ⟨.hbm, 154, rfl⟩
abbrev main_while0b_cst_27 : Ref sig .tc := ⟨.hbm, 155, rfl⟩
abbrev main_while0b_v67 : Ref sig .tc := ⟨.hbm, 156, rfl⟩
abbrev main_while0b_v68 : Ref sig .tc := ⟨.hbm, 157, rfl⟩
abbrev main_while0b_cst_28 : Ref sig .tc := ⟨.hbm, 158, rfl⟩
abbrev main_while0b_v69 : Ref sig .tc := ⟨.hbm, 159, rfl⟩
abbrev main_while0b_v70 : Ref sig .tc := ⟨.hbm, 160, rfl⟩
abbrev main_while0b_c_29 : Ref sig .tc := ⟨.hbm, 161, rfl⟩
abbrev main_while0b_call5_cst : Ref sig .tc := ⟨.hbm, 162, rfl⟩
abbrev main_while0b_call5_v0 : Ref sig .tc := ⟨.hbm, 163, rfl⟩
abbrev main_while0b_call5_v1 : Ref sig .tc := ⟨.hbm, 164, rfl⟩
abbrev main_while0b_call5_cst_0 : Ref sig .tc := ⟨.hbm, 165, rfl⟩
abbrev main_while0b_call5_v2 : Ref sig .tc := ⟨.hbm, 166, rfl⟩
abbrev main_while0b_call5_v3 : Ref sig .tc := ⟨.hbm, 167, rfl⟩
abbrev main_while0b_call5_v4 : Ref sig .tc := ⟨.hbm, 168, rfl⟩
abbrev main_while0b_call5_v5 : Ref sig .tc := ⟨.hbm, 169, rfl⟩
abbrev main_while0b_call5_v6 : Ref sig .tc := ⟨.hbm, 170, rfl⟩
abbrev main_while0b_call5_v7 : Ref sig .tc := ⟨.hbm, 171, rfl⟩
abbrev main_while0b_call5_cst_1 : Ref sig .tc := ⟨.hbm, 172, rfl⟩
abbrev main_while0b_call5_v8 : Ref sig .tc := ⟨.hbm, 173, rfl⟩
abbrev main_while0b_call5_cst_2 : Ref sig .tc := ⟨.hbm, 174, rfl⟩
abbrev main_while0b_call5_v9 : Ref sig .tc := ⟨.hbm, 175, rfl⟩
abbrev main_while0b_call5_v10 : Ref sig .tc := ⟨.hbm, 176, rfl⟩
abbrev main_while0b_call5_v11 : Ref sig .tc := ⟨.hbm, 177, rfl⟩
abbrev main_while0b_call5_v12 : Ref sig .tc := ⟨.hbm, 178, rfl⟩
abbrev main_while0b_call5_cst_3 : Ref sig .tc := ⟨.hbm, 179, rfl⟩
abbrev main_while0b_call5_v13 : Ref sig .tc := ⟨.hbm, 180, rfl⟩
abbrev main_while0b_call5_cst_4 : Ref sig .tc := ⟨.hbm, 181, rfl⟩
abbrev main_while0b_call5_call0_v0 : Ref sig .tc := ⟨.hbm, 182, rfl⟩
abbrev main_while0b_call5_call0_v1 : Ref sig .tc := ⟨.hbm, 183, rfl⟩
abbrev main_while0b_v71 : Ref sig .tc := ⟨.hbm, 184, rfl⟩
abbrev main_while0b_v72 : Ref sig .tc := ⟨.hbm, 185, rfl⟩
abbrev main_while0b_v73 : Ref sig .tc := ⟨.hbm, 186, rfl⟩
abbrev main_while0b_cst_30 : Ref sig .tc := ⟨.hbm, 187, rfl⟩
abbrev main_while0b_v74 : Ref sig .tc := ⟨.hbm, 188, rfl⟩
abbrev main_while0b_v75 : Ref sig .tc := ⟨.hbm, 189, rfl⟩
abbrev main_while0b_v76 : Ref sig .tc := ⟨.hbm, 190, rfl⟩
abbrev main_while0b_v77 : Ref sig .tc := ⟨.hbm, 191, rfl⟩
abbrev main_while0b_v78 : Ref sig .tc := ⟨.hbm, 192, rfl⟩
abbrev main_while0b_v79 : Ref sig .tc := ⟨.hbm, 193, rfl⟩
abbrev main_while0b_v80 : Ref sig .tc := ⟨.hbm, 194, rfl⟩
abbrev main_while0b_v81 : Ref sig .tc := ⟨.hbm, 195, rfl⟩
abbrev main_while0b_v82 : Ref sig .tc := ⟨.hbm, 196, rfl⟩
abbrev main_while0b_v83 : Ref sig .tc := ⟨.hbm, 197, rfl⟩
abbrev main_while0b_v84 : Ref sig .tc := ⟨.hbm, 198, rfl⟩
abbrev main_while0b_v85 : Ref sig .tc := ⟨.hbm, 199, rfl⟩
abbrev main_while0b_c_31 : Ref sig .tc := ⟨.hbm, 200, rfl⟩
abbrev main_while0b_v86 : Ref sig .tc := ⟨.hbm, 201, rfl⟩
abbrev main_while0b_v87 : Ref sig .tc := ⟨.hbm, 202, rfl⟩
abbrev main_while0b_c_32 : Ref sig .tc := ⟨.hbm, 203, rfl⟩
abbrev main_while0b_v88 : Ref sig .tc := ⟨.hbm, 204, rfl⟩
abbrev main_while0b_v89 : Ref sig .tc := ⟨.hbm, 205, rfl⟩
abbrev main_while0b_v90 : Ref sig .tc := ⟨.hbm, 206, rfl⟩
abbrev main_while0b_c_33 : Ref sig .tc := ⟨.hbm, 207, rfl⟩
abbrev main_while0b_v91 : Ref sig .tc := ⟨.hbm, 208, rfl⟩
abbrev main_while0b_v92 : Ref sig .tc := ⟨.hbm, 209, rfl⟩
abbrev main_while0b_c_34 : Ref sig .tc := ⟨.hbm, 210, rfl⟩
abbrev main_while0b_v93 : Ref sig .tc := ⟨.hbm, 211, rfl⟩
abbrev main_while0b_v94 : Ref sig .tc := ⟨.hbm, 212, rfl⟩
abbrev main_while0b_v95 : Ref sig .tc := ⟨.hbm, 213, rfl⟩
abbrev main_while0b_v96 : Ref sig .tc := ⟨.hbm, 214, rfl⟩
abbrev main_while0b_v97 : Ref sig .tc := ⟨.hbm, 215, rfl⟩
abbrev main_while0b_v98 : Ref sig .tc := ⟨.hbm, 216, rfl⟩
abbrev main_while0b_v99 : Ref sig .tc := ⟨.hbm, 217, rfl⟩
abbrev main_while0b_cst_35 : Ref sig .tc := ⟨.hbm, 218, rfl⟩
abbrev main_while0b_v100 : Ref sig .tc := ⟨.hbm, 219, rfl⟩
abbrev main_while0b_v101 : Ref sig .tc := ⟨.hbm, 220, rfl⟩
abbrev main_while0b_cst_36 : Ref sig .tc := ⟨.hbm, 221, rfl⟩
abbrev main_while0b_call6_v0 : Ref sig .tc := ⟨.hbm, 222, rfl⟩
abbrev main_while0b_call6_v1 : Ref sig .tc := ⟨.hbm, 223, rfl⟩
abbrev main_while0b_call6_v2 : Ref sig .tc := ⟨.hbm, 224, rfl⟩
abbrev main_while0b_call6_cst : Ref sig .tc := ⟨.hbm, 225, rfl⟩
abbrev main_while0b_call6_v3 : Ref sig .tc := ⟨.hbm, 226, rfl⟩
abbrev main_while0b_call6_v4 : Ref sig .tc := ⟨.hbm, 227, rfl⟩
abbrev main_while0b_call6_cst_0 : Ref sig .tc := ⟨.hbm, 228, rfl⟩
abbrev main_while0b_call6_v5 : Ref sig .tc := ⟨.hbm, 229, rfl⟩
abbrev main_while0b_call6_v6 : Ref sig .tc := ⟨.hbm, 230, rfl⟩
abbrev main_while0b_call6_cst_1 : Ref sig .tc := ⟨.hbm, 231, rfl⟩
abbrev main_while0b_call6_v7 : Ref sig .tc := ⟨.hbm, 232, rfl⟩
abbrev main_while0b_call6_v8 : Ref sig .tc := ⟨.hbm, 233, rfl⟩
abbrev main_while0b_call6_v9 : Ref sig .tc := ⟨.hbm, 234, rfl⟩
abbrev main_while0b_call6_v10 : Ref sig .tc := ⟨.hbm, 235, rfl⟩
abbrev main_while0b_call6_v11 : Ref sig .tc := ⟨.hbm, 236, rfl⟩
abbrev main_while0b_call6_v12 : Ref sig .tc := ⟨.hbm, 237, rfl⟩
abbrev main_while0b_v102 : Ref sig .tc := ⟨.hbm, 238, rfl⟩
abbrev main_while0b_c_37 : Ref sig .tc := ⟨.hbm, 239, rfl⟩
abbrev main_while0b_v103 : Ref sig .tc := ⟨.hbm, 240, rfl⟩
abbrev main_v13 : Ref sig .tc := ⟨.hbm, 241, rfl⟩
abbrev main_v14 : Ref sig .tc := ⟨.hbm, 242, rfl⟩
abbrev main_v15 : Ref sig .tc := ⟨.hbm, 243, rfl⟩
abbrev main_v16 : Ref sig .tc := ⟨.hbm, 244, rfl⟩

abbrev nD : Nat := 1
abbrev τ : Topo := Topo.v7x

variable {F : FTy → Type} [FloatOps F]

abbrev main_while0_count : Scf.Loop 32 := ⟨0#32, 50#32, 1#32⟩
-- ==== Proof.RefFrame.lean ====
/- The reference's host loop leaves a buffer alone that none of its stretches writes. So the argument arrays end as
   launched, and the constants that the loop carries are, before every trip, what the lines before the loop made them. -/
module

public import proofs.«01_k».proof.Defs
public import proofs.«01_k».proof.Proof.Gen.ReferenceIdeal.Run
public import Idealize.ShloMosaic.Lib.Quiescent

@[expose] public section

noncomputable section

namespace Cert.Proof.RefFrame

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-- Every buffer that the loop's condition or its body writes. -/
abbrev loopW : List (Ref sig .tc) :=
  condOps_W ++ (while0Ops0_W ++ (while0Ops0_1_W ++ (while0Ops0_2_W ++ (while0Ops0_3_W ++ (while0Ops0_4_W ++
    (while0Ops0_5_W ++ (while0Ops0_6_W ++ (while0Ops0_7_W ++ (while0Ops0_8_W ++ (while0Ops0_9_W ++ (while0Ops0_10_W ++
    (while0Ops0_11_W ++ (while0Ops0_12_W ++ while0Ops0_13_W)))))))))))))

/-- One trip leaves a buffer alone that the loop does not write. -/
theorem trip_keeps (V : Valuation τ sig (Elt F)) (b : Ref sig .tc) (h : b ∉ loopW) :
    afterL bodyI (after condOps V) (Proc.devRef .tc b) = V (Proc.devRef .tc b) := by
  simp only [loopW, List.mem_append, not_or] at h
  obtain ⟨hc, h0, h1, h2, h3, h4, h5, h6, h7, h8, h9, h10, h11, h12, h13⟩ := h
  simp only [afterL_cons, afterL_nil]
  rw [after_of_writes_sub _ _ while0Ops0_13_writes h13, after_of_writes_sub _ _ while0Ops0_12_writes h12,
    after_of_writes_sub _ _ while0Ops0_11_writes h11, after_of_writes_sub _ _ while0Ops0_10_writes h10,
    after_of_writes_sub _ _ while0Ops0_9_writes h9, after_of_writes_sub _ _ while0Ops0_8_writes h8,
    after_of_writes_sub _ _ while0Ops0_7_writes h7, after_of_writes_sub _ _ while0Ops0_6_writes h6,
    after_of_writes_sub _ _ while0Ops0_5_writes h5, after_of_writes_sub _ _ while0Ops0_4_writes h4,
    after_of_writes_sub _ _ while0Ops0_3_writes h3, after_of_writes_sub _ _ while0Ops0_2_writes h2,
    after_of_writes_sub _ _ while0Ops0_1_writes h1, after_of_writes_sub _ _ while0Ops0_writes h0,
    after_of_writes_sub _ _ condOps_writes hc]

variable (m : (ℓ : Loc nD τ sig) → Buf (Elt F) ℓ) (ρ : Dev nD → PrngReg)

/-- Such a buffer holds before every trip what it held at the loop's entry. -/
theorem atK_keeps (c : Dev nD) (b : Ref sig .tc) (h : b ∉ loopW) :
    ∀ k, atK m k c (Proc.devRef .tc b) = atK m 0 c (Proc.devRef .tc b)
  | 0 => rfl
  | k + 1 => (trip_keeps _ b h).trans (atK_keeps c b h k)

/-- Before the first trip the loop finds what the lines before it left. -/
theorem atK_zero (c : Dev nD) : atK m 0 c = after hostOps0 (fun b => m (c, b)) := rfl

/-- A buffer that nothing writes ends as launched. -/
theorem final_keeps (c : Dev nD) (b : Ref sig .tc) (h0 : b ∉ hostOps0_W) (h : b ∉ loopW) (h1 : b ∉ hostOps0_1_W) :
    finalContents condOps preI bodyI postI 50 m c (Proc.devRef .tc b) = m ((c.tc : Thread nD τ).loc b) := by
  show afterL postI (after condOps (atK m 50 c)) (Proc.devRef .tc b) = _
  simp only [afterL_cons, afterL_nil]
  rw [after_of_writes_sub _ _ hostOps0_1_writes h1,
    after_of_writes_sub _ _ condOps_writes (fun hc => h (List.mem_append_left _ hc)), atK_keeps m c b h 50, atK_zero,
    after_of_writes_sub _ _ hostOps0_writes h0]

/-- The reference's run: the result array ends at the fold, the arguments as launched. -/
theorem run : θ_run (defs (F := F)) (onTc (τ := τ) (main (F := F))) ⟨m, fun _ => 0, ρ⟩ fun r => ∀ c : Dev nD,
      r.2.mem ((c.tc : Thread nD τ).loc main_v16)
        = finalContents condOps preI bodyI postI 50 m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (run_fold m ρ)
  have k : ∀ b : Ref sig .tc, (Proc.devRef .tc b : DevRef τ sig).isScoped = false → b ∉ hostOps0_W → b ∉ loopW →
      b ∉ hostOps0_1_W → r.2.mem ((c.tc : Thread nD τ).loc b) = m ((c.tc : Thread nD τ).loc b) :=
    fun b hs h0 h1 h2 => (h c b hs).trans (final_keeps m c b h0 h1 h2)
  exact ⟨h c main_v16 (by decide), k _ (by decide) (by decide) (by decide) (by decide),
    k _ (by decide) (by decide) (by decide) (by decide), k _ (by decide) (by decide) (by decide) (by decide),
    k _ (by decide) (by decide) (by decide) (by decide), k _ (by decide) (by decide) (by decide) (by decide),
    k _ (by decide) (by decide) (by decide) (by decide), k _ (by decide) (by decide) (by decide) (by decide),
    k _ (by decide) (by decide) (by decide) (by decide), k _ (by decide) (by decide) (by decide) (by decide),
    k _ (by decide) (by decide) (by decide) (by decide)⟩

/-- The reference's frame. -/
theorem quiescent : Cert.quiescent_ReferenceIdeal := fun m ρ _ =>
  (θ_run defs _ _).mono (fun r h => ⟨fun c => (h c).2, Idealize.ShloMosaic.sem_eq_zero_of_no_sems (by decide) r.2⟩)
    (run (F := Ideal) m ρ)

end Cert.Proof.RefFrame

end
-- ==== Proof.Spec.lean ====
/- The mathematics of one sequence, over the extended reals. A sequence `x 0, x 1, …` drives a hidden state of 256
   numbers: each step embeds its input, adds what it reads from the states before, applies one affine map and `tanh`, and
   normalises (`update`). What a step reads is a weighted sum of the last state and the one before it, so the states are a
   recursion of depth two (`state`). The result is an affine map of the last state (`logit`). -/
module

public import Idealize.ShloMosaic.PureOps.Ideal.Laws
public import Idealize.ShloMosaic.Lib.IdealHost
public import Idealize.ShloMosaic.Lib.Pointwise

@[expose] public section

noncomputable section

namespace Cert.Proof.Spec

open Idealize.ShloMosaic
open scoped BigOperators

/-! ## The constants, as the two programs write them -/

/-- The number 256, the width of a state. -/
abbrev width : EReal := Ideal.ofBits .f32 0x43800000#32
/-- The number added to a variance before its root is taken. -/
abbrev eps : EReal := Ideal.ofBits .f32 0x3727C5AC#32
/-- The number 1. -/
abbrev one : EReal := Ideal.ofBits .f32 0x3F800000#32
/-- The number 2. -/
abbrev two : EReal := Ideal.ofBits .f32 0x40000000#32
/-- The unnormalised weight of a slot at distance two, `exp (-1/2)`. -/
def far : EReal := Ideal.exp (Ideal.ofBits .f32 0xBF000000#32)
/-- The unnormalised weight of a slot at distance one, `exp (-1/8)`. -/
def near : EReal := Ideal.exp (Ideal.ofBits .f32 0xBE000000#32)
/-- The sum of the five weights, of distances 2, 1, 0, 1, 2. -/
def total : EReal := (one + two * near) + two * far
/-- The sum of the four weights at the second step, whose slot two before wraps to the far end and has none. -/
def total1 : EReal := (one + two * near) + far

/-! ## One step -/

/-- The parameters: the embedding's scale and offset, the affine map, the normalisation's scale and offset, and the
    strength with which a step reads the earlier states. -/
structure Params where
  eW : Fin 256 → EReal
  eb : Fin 256 → EReal
  uW : Fin 256 → Fin 256 → EReal
  ub : Fin 256 → EReal
  ng : Fin 256 → EReal
  nb : Fin 256 → EReal
  cs : EReal

/-- An input's embedding. -/
def embed (P : Params) (x : EReal) (d : Fin 256) : EReal := Ideal.tanh (x * P.eW d + P.eb d)
/-- The affine map and `tanh`. -/
def act (P : Params) (s : Fin 256 → EReal) (d : Fin 256) : EReal := Ideal.tanh ((∑ k, s k * P.uW k d) + P.ub d)
/-- The mean of 256 numbers. -/
def mean (u : Fin 256 → EReal) : EReal := Ideal.div (∑ k, u k) width
/-- Their variance. -/
def variance (u : Fin 256 → EReal) : EReal := Ideal.div (∑ k, (u k - mean u) * (u k - mean u)) width
/-- The numbers normalised, scaled and offset. -/
def norm (P : Params) (u : Fin 256 → EReal) (d : Fin 256) : EReal :=
  Ideal.div (u d - mean u) (Ideal.sqrt (variance u + eps)) * P.ng d + P.nb d
/-- One step, from what it has gathered. -/
def update (P : Params) (s : Fin 256 → EReal) : Fin 256 → EReal := norm P (act P s)

/-! ## The recursion -/

/-- What the second step gathers: its embedding and the state before. -/
def gather1 (P : Params) (x : EReal) (h : Fin 256 → EReal) (d : Fin 256) : EReal :=
  embed P x d + (P.cs * Ideal.div near total1 + 1) * h d
/-- What a later step gathers: its embedding, the state `h` before and the state `h2` before that. -/
def gather2 (P : Params) (x : EReal) (h h2 : Fin 256 → EReal) (d : Fin 256) : EReal :=
  (embed P x d + (P.cs * Ideal.div far total) * h2 d) + (P.cs * Ideal.div near total + 1) * h d

/-- The state after step `t` of the sequence `x`. -/
def state (P : Params) (x : ℕ → EReal) : ℕ → Fin 256 → EReal
  | 0 => update P (embed P (x 0))
  | 1 => update P (gather1 P (x 1) (state P x 0))
  | t + 2 => update P (gather2 P (x (t + 2)) (state P x (t + 1)) (state P x t))

theorem state_zero (P : Params) (x : ℕ → EReal) : state P x 0 = update P (embed P (x 0)) := rfl
theorem state_one (P : Params) (x : ℕ → EReal) : state P x 1 = update P (gather1 P (x 1) (state P x 0)) := rfl
theorem state_succ (P : Params) (x : ℕ → EReal) (t : ℕ) :
    state P x (t + 2) = update P (gather2 P (x (t + 2)) (state P x (t + 1)) (state P x t)) := rfl

/-- One result of a state: a column of the last affine map. -/
def logit (oW : Fin 256 → EReal) (ob : EReal) (h : Fin 256 → EReal) : EReal := (∑ k, h k * oW k) + ob

/-! ## The result of the ten argument arrays -/

/-- The parameters as the argument arrays hold them. -/
def argParams (a1 : (⟨2, ![1, 256]⟩ : Shape).Idx → EReal) (a2 : (⟨1, ![256]⟩ : Shape).Idx → EReal)
    (a3 : (⟨2, ![256, 256]⟩ : Shape).Idx → EReal) (a4 a5 a6 : (⟨1, ![256]⟩ : Shape).Idx → EReal)
    (a9 : (⟨0, ![]⟩ : Shape).Idx → EReal) : Params where
  eW d := a1 (ix2 0 d)
  eb d := a2 (ix1 d)
  uW k d := a3 (ix2 k d)
  ub d := a4 (ix1 d)
  ng d := a5 (ix1 d)
  nb d := a6 (ix1 d)
  cs := Ideal.logistic (a9 ix0)

/-- Sequence `b` of the first argument array (zero past its 50 inputs). -/
def argSeq (a0 : (⟨3, ![1024, 50, 1]⟩ : Shape).Idx → EReal) (b : Fin 1024) (t : ℕ) : EReal :=
  if h : t < 50 then a0 (ix3 b ⟨t, h⟩ 0) else 0

/-- Result `q` of sequence `b`: the last affine map of its state after its 50 inputs. -/
def result (a0 : (⟨3, ![1024, 50, 1]⟩ : Shape).Idx → EReal) (P : Params)
    (a7 : (⟨2, ![256, 10]⟩ : Shape).Idx → EReal) (a8 : (⟨1, ![10]⟩ : Shape).Idx → EReal) (b : Fin 1024) (q : Fin 10) : EReal :=
  logit (fun k => a7 (ix2 k q)) (a8 (ix1 q)) (state P (argSeq a0 b) 49)

/-- A state depends on the inputs up to its step alone. -/
theorem state_congr (P : Params) (x y : ℕ → EReal) : ∀ t, (∀ s, s ≤ t → x s = y s) → state P x t = state P y t
  | 0, h => by rw [state_zero, state_zero, h 0 (le_refl _)]
  | 1, h => by rw [state_one, state_one, h 1 (le_refl _), state_congr P x y 0 fun s hs => h s (by omega)]
  | t + 2, h => by
    rw [state_succ, state_succ, h (t + 2) (le_refl _), state_congr P x y (t + 1) fun s hs => h s (by omega),
      state_congr P x y t fun s hs => h s (by omega)]

end Cert.Proof.Spec

end
-- ==== Proof.KernelStep.lean ====
/- What one grid point of the kernel computes from its blocks, step by step: each stored or carried value of the kernel,
   read at a row `b` and a column `d`, is the mathematics of that row's sequence (Spec.lean). The input of step `t` is
   read as the product of the row with a column that is one at `t` and zero elsewhere (`onehot`). -/
module

public import proofs.«01_k».proof.Proof.Gen.KernelIdeal.Frame
public import proofs.«01_k».proof.Proof.Spec
public import Idealize.ShloMosaic.Lib.Pointwise

@[expose] public section

noncomputable section

namespace Cert.Proof.KernelStep

open Cert.KernelIdeal Cert.KernelIdeal.Gen Cert.Proof.Spec
open Idealize.ShloMosaic Idealize.ShloMosaic.TcCoe
open scoped BigOperators

/-! ## The input of a step -/

/-- A row times the column that is one at place `t` is the row at place `t`. -/
theorem onehot (f : Fin 64 → EReal) (w : BitVec 32) (t : Fin 64) (hw : w = BitVec.ofNat 32 t.val) :
    (∑ x : Fin 64, f x * FloatOps.sitofp (F := Ideal) FTy.f32
      (BitVec.setWidth 32 (IntOp.cmpi CmpIPredicate.eq (BitVec.ofNat 32 x.val) w))) = f t := by
  subst hw
  have hz : ∀ x : Fin 64, FloatOps.sitofp (F := Ideal) FTy.f32
      (BitVec.setWidth 32 (IntOp.cmpi CmpIPredicate.eq (BitVec.ofNat 32 x.val) (BitVec.ofNat 32 t.val)))
        = if x = t then (1 : EReal) else 0 := by
    intro x
    show ((((BitVec.setWidth 32 (BitVec.ofBool (BitVec.ofNat 32 x.val == BitVec.ofNat 32 t.val))).toInt : ℤ) : ℝ) : EReal) = _
    by_cases h : x = t
    · subst h
      rw [beq_self_eq_true, if_pos rfl, show (BitVec.setWidth 32 (BitVec.ofBool true)).toInt = 1 by decide]
      norm_num
    · have h' : (BitVec.ofNat 32 x.val == BitVec.ofNat 32 t.val) = false := beq_false_of_ne fun e => h (by
        have := congrArg BitVec.toNat e
        simp only [BitVec.toNat_ofNat] at this
        apply Fin.ext; omega)
      rw [h', if_neg h, show (BitVec.setWidth 32 (BitVec.ofBool false)).toInt = 0 by decide]
      norm_num
  simp only [hz, mul_ite, mul_one, mul_zero, Finset.sum_ite_eq', Finset.mem_univ, if_true]

/-! ## The parameters and the sequences of a block -/

/-- The parameters as the kernel's blocks hold them. -/
def params (x1 x2 : Vec Ideal S1x256 .f32) (x3 : Vec Ideal S256x256 .f32) (x4 x5 x6 : Vec Ideal S1x256 .f32)
    (x9 : Vec Ideal S1x1 .f32) : Params where
  eW d := x1 (ix2 0 d)
  eb d := x2 (ix2 0 d)
  uW k d := x3 (ix2 k d)
  ub d := x4 (ix2 0 d)
  ng d := x5 (ix2 0 d)
  nb d := x6 (ix2 0 d)
  cs := Ideal.logistic (x9 (ix2 0 0))

/-- Row `b` of the input block as a sequence (zero past its 64 columns). -/
def seqOf (x0 : Vec Ideal S128x64 .f32) (b : Fin 128) (t : ℕ) : EReal := if h : t < 64 then x0 (ix2 b ⟨t, h⟩) else 0

theorem seqOf_lt (x0 : Vec Ideal S128x64 .f32) (b : Fin 128) {t : ℕ} (h : t < 64) : seqOf x0 b t = x0 (ix2 b ⟨t, h⟩) :=
  dif_pos h

variable (x0 : Vec Ideal S128x64 .f32) (x1 x2 : Vec Ideal S1x256 .f32) (x3 : Vec Ideal S256x256 .f32)
  (x4 x5 x6 : Vec Ideal S1x256 .f32) (x9 : Vec Ideal S1x1 .f32)

/-- The states after step `t` of the block's 128 sequences. -/
def states (t : ℕ) : FVec Ideal S128x256 .f32 := fun j =>
  state (params x1 x2 x3 x4 x5 x6 x9) (seqOf x0 (j 0)) t (j 1)

theorem states_apply (t : ℕ) (b : Fin 128) (d : Fin 256) : states x0 x1 x2 x3 x4 x5 x6 x9 t (ix2 b d)
    = state (params x1 x2 x3 x4 x5 x6 x9) (seqOf x0 b) t d := rfl

/-! ## The steps before the loop -/

/-- A vector over rows and columns is known by its entries. -/
theorem ext2 {n0 n1 : ℕ} {α : Type} {f g : (⟨2, ![n0, n1]⟩ : Shape).Idx → α} (h : ∀ b d, f (ix2 b d) = g (ix2 b d)) : f = g :=
  funext fun j => by rw [eq_ix2 j]; exact h _ _

/-- The state after the first step. -/
theorem first_eq : k0_pay12 (k0_pay11 x0 x1 x2 x3 x4) x5 x6 = states x0 x1 x2 x3 x4 x5 x6 x9 0 := by
  refine ext2 fun b d => ?_
  have h : ∀ k, k0_pay11 x0 x1 x2 x3 x4 (ix2 b k)
      = act (params x1 x2 x3 x4 x5 x6 x9) (embed (params x1 x2 x3 x4 x5 x6 x9) (seqOf x0 b 0)) k := by
    intro k
    unfold k0_pay11
    pointwise
    rw [onehot (fun x => x0 (ix2 b x)) 0#32 ⟨0, by decide⟩ rfl, ← seqOf_lt x0 b (by decide : (0 : ℕ) < 64)]
    rfl
  rw [states_apply, state_zero]
  unfold k0_pay12
  pointwise
  simp only [h]
  rfl

/-- The embedding at the second step. -/
theorem embed1_eq (b : Fin 128) (d : Fin 256) :
    k0_pay13 x0 x1 x2 (ix2 b d) = embed (params x1 x2 x3 x4 x5 x6 x9) (seqOf x0 b 1) d := by
  unfold k0_pay13
  pointwise
  rw [onehot (fun x => x0 (ix2 b x)) 1#32 ⟨1, by decide⟩ rfl, ← seqOf_lt x0 b (by decide : (1 : ℕ) < 64)]
  rfl

/-- The state after the second step. -/
theorem second_eq :
    k0_pay15 (k0_pay10 x9) (states x0 x1 x2 x3 x4 x5 x6 x9 0) (k0_pay13 x0 x1 x2)
      (k0_pay14 (k0_pay7 (F := Ideal)) (k0_pay9 (F := Ideal))) x3 x4 x5 x6 = states x0 x1 x2 x3 x4 x5 x6 x9 1 := by
  refine ext2 fun b d => ?_
  rw [states_apply, state_one]
  unfold k0_pay15 k0_pay10
  pointwise
  simp only [embed1_eq x0 x1 x2 x3 x4 x5 x6 x9, states_apply]
  rfl

/-! ## A trip of the loop -/

/-- The activation of trip `k`, from the states `h` and `h2` of the two steps before. -/
theorem act_eq (k : Fin k0_t1_loop.trips) (hk : k.val < 48) (h h2 : FVec Ideal S128x256 .f32) (b : Fin 128) (d : Fin 256) :
    k0_pay3 (k0_pay10 x9) (k0_pay16 (k0_pay6 (F := Ideal)) (k0_pay8 (F := Ideal)))
      (k0_pay17 (k0_pay7 (F := Ideal)) (k0_pay8 (F := Ideal))) 2#32 1#32 k h h2 x0 x1 x2 x3 x4 (ix2 b d)
    = act (params x1 x2 x3 x4 x5 x6 x9) (gather2 (params x1 x2 x3 x4 x5 x6 x9) (seqOf x0 b (k.val + 2))
        (fun k => h (ix2 b k)) (fun k => h2 (ix2 b k))) d := by
  have hw : Scf.iv 2#32 1#32 k.val = BitVec.ofNat 32 (⟨k.val + 2, by omega⟩ : Fin 64).val := by
    unfold Scf.iv
    apply BitVec.eq_of_toNat_eq
    simp
    omega
  unfold k0_pay3 k0_pay10
  pointwise
  rw [onehot (fun x => x0 (ix2 b x)) _ ⟨k.val + 2, by omega⟩ hw, ← seqOf_lt x0 b (by omega : k.val + 2 < 64)]
  rfl

/-- The loop's body at trip `k`, from the states of the two steps before: the state of step `k + 2`. -/
theorem later_eq (k : Fin k0_t1_loop.trips) (hk : k.val < 48) (v120 v121 : EReal) (p3 : FVec Ideal S128x256 .f32)
    (hp3 : k0_pay3 (k0_pay10 x9) v120 v121 2#32 1#32 k (states x0 x1 x2 x3 x4 x5 x6 x9 (k.val + 1))
      (states x0 x1 x2 x3 x4 x5 x6 x9 k.val) x0 x1 x2 x3 x4 = p3)
    (h120 : v120 = k0_pay16 (k0_pay6 (F := Ideal)) (k0_pay8 (F := Ideal)))
    (h121 : v121 = k0_pay17 (k0_pay7 (F := Ideal)) (k0_pay8 (F := Ideal))) :
    k0_pay1 p3
      (k0_pay4 (k0_pay10 x9) v120 v121 2#32 1#32 k (states x0 x1 x2 x3 x4 x5 x6 x9 (k.val + 1))
        (states x0 x1 x2 x3 x4 x5 x6 x9 k.val) x0 x1 x2 x3 x4)
      (k0_pay5 (k0_pay10 x9) v120 v121 2#32 1#32 k (states x0 x1 x2 x3 x4 x5 x6 x9 (k.val + 1))
        (states x0 x1 x2 x3 x4 x5 x6 x9 k.val) x0 x1 x2 x3 x4) x5 x6
      = states x0 x1 x2 x3 x4 x5 x6 x9 (k.val + 2) := by
  refine ext2 fun b d => ?_
  have h3 : ∀ d, p3 (ix2 b d) = act (params x1 x2 x3 x4 x5 x6 x9)
      (gather2 (params x1 x2 x3 x4 x5 x6 x9) (seqOf x0 b (k.val + 2))
        (state (params x1 x2 x3 x4 x5 x6 x9) (seqOf x0 b) (k.val + 1))
        (state (params x1 x2 x3 x4 x5 x6 x9) (seqOf x0 b) k.val)) d := by
    intro d
    rw [← hp3, h120, h121]
    exact act_eq x0 x1 x2 x3 x4 x5 x6 x9 k hk _ _ b d
  rw [states_apply, state_succ]
  unfold k0_pay1 k0_pay5 k0_pay4
  rw [hp3]
  pointwise
  simp only [h3]
  rfl

/-! ## The result -/

/-- The block's result from its last states. -/
theorem result_eq (h : FVec Ideal S128x256 .f32) (x7 : Vec Ideal S256x128 .f32) (x8 : Vec Ideal S1x128 .f32) (b : Fin 128)
    (q : Fin 128) :
    k0_pay2 h x7 x8 (ix2 b q) = logit (fun k => x7 (ix2 k q)) (x8 (ix2 0 q)) (fun k => h (ix2 b k)) := by
  unfold k0_pay2
  pointwise
  rfl

end Cert.Proof.KernelStep

end
-- ==== Proof.KernelBlock.lean ====
/- What one grid point of the kernel leaves in its output block: the loop carries the states of the last two steps, so its
   48 trips take it from steps 1 and 0 to steps 49 and 48, and the block is the last affine map of step 49's states. -/
module

public import proofs.«01_k».proof.Proof.KernelStep

@[expose] public section

noncomputable section

namespace Cert.Proof.KernelBlock

open Cert.KernelIdeal Cert.KernelIdeal.Gen Cert.Proof.Spec Cert.Proof.KernelStep
open Idealize.ShloMosaic Idealize.ShloMosaic.TcCoe Idealize.SL.Sem

theorem zeros2 : (![0, 0] : Fin 2 → Nat) = fun _ => 0 := funext fun a => by fin_cases a <;> rfl

variable (c : Dev nD) (i : grid0.Coords)
  (arg1 : Memref sig .tc .vmem S128x64 .f32) (harg1 : arg1.IsWhole) (arg2 : Memref sig .tc .vmem S1x256 .f32) (harg2 : arg2.IsWhole)
  (arg3 : Memref sig .tc .vmem S1x256 .f32) (harg3 : arg3.IsWhole) (arg4 : Memref sig .tc .vmem S256x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg8 : Memref sig .tc .vmem S256x128 .f32) (harg8 : arg8.IsWhole)
  (arg9 : Memref sig .tc .vmem S1x128 .f32) (harg9 : arg9.IsWhole) (arg10 : Memref sig .tc .vmem S1x1 .f32) (harg10 : arg10.IsWhole)
  (arg11 : Memref sig .tc .vmem S128x128 .f32) (harg11 : arg11.IsWhole)
  (x0 : Vec Ideal S128x64 .f32) (x1 x2 : Vec Ideal S1x256 .f32) (x3 : Vec Ideal S256x256 .f32)
  (x4 x5 x6 : Vec Ideal S1x256 .f32) (x7 : Vec Ideal S256x128 .f32) (x8 : Vec Ideal S1x128 .f32) (x9 : Vec Ideal S1x1 .f32)

/-- What a trip of the loop yields, as the printed values. -/
theorem trip_eq (v11 : FVec Ideal S1x1 .f32) (v120 v121 : EReal) (k : Fin k0_t1_loop.trips)
    (acc : FVec Ideal S128x256 .f32 × FVec Ideal S128x256 .f32) :
    tripR_k0_t1 (F := Ideal) Variants.none c none i arg1 harg1 arg2 harg2 arg3 harg3 arg4 harg4 arg5 harg5 arg6 harg6 arg7 harg7
      arg8 harg8 arg9 harg9 arg10 harg10 arg11 harg11 v11 v120 v121 2#32
      (harg1.unread x0) (harg2.unread x1) (harg3.unread x2) (harg4.unread x3) (harg5.unread x4) (harg6.unread x5) (harg7.unread x6)
      k acc
    = (k0_pay1 (k0_pay3 v11 v120 v121 2#32 1#32 k acc.1 acc.2 x0 x1 x2 x3 x4)
        (k0_pay4 v11 v120 v121 2#32 1#32 k acc.1 acc.2 x0 x1 x2 x3 x4)
        (k0_pay5 v11 v120 v121 2#32 1#32 k acc.1 acc.2 x0 x1 x2 x3 x4) x5 x6, acc.1) := by
  unfold tripR_k0_t1 trip_k0_t1
  dsimp only
  sl_unfold_words
  simp only [View.readAt_eq_ld, harg1.read_unread, harg2.read_unread, harg3.read_unread, harg4.read_unread, harg5.read_unread,
    harg6.read_unread, harg7.read_unread]
  rw [View.ld_unit_zero (S := S128x64) zeros2, View.ld_unit_zero (S := S1x256) zeros2, View.ld_unit_zero (S := S1x256) zeros2,
    View.ld_unit_zero (S := S256x256) zeros2, View.ld_unit_zero (S := S1x256) zeros2, View.ld_unit_zero (S := S1x256) zeros2,
    View.ld_unit_zero (S := S1x256) zeros2]

/-- The loop makes 48 trips. -/
theorem trips_eq : k0_t1_loop.trips = 48 := by decide +kernel

/-- Before trip `n` the loop carries the states of steps `n + 1` and `n`. -/
theorem loop_eq (v11 : FVec Ideal S1x1 .f32) (v120 v121 : EReal) (init : FVec Ideal S128x256 .f32 × FVec Ideal S128x256 .f32)
    (h11 : v11 = k0_pay10 x9) (h120 : v120 = k0_pay16 (k0_pay6 (F := Ideal)) (k0_pay8 (F := Ideal)))
    (h121 : v121 = k0_pay17 (k0_pay7 (F := Ideal)) (k0_pay8 (F := Ideal)))
    (hinit : init = (states x0 x1 x2 x3 x4 x5 x6 x9 1, states x0 x1 x2 x3 x4 x5 x6 x9 0)) :
    ∀ n, n ≤ 48 → st_k0_t1 (F := Ideal) Variants.none c none i arg1 harg1 arg2 harg2 arg3 harg3 arg4 harg4 arg5 harg5 arg6 harg6
      arg7 harg7 arg8 harg8 arg9 harg9 arg10 harg10 arg11 harg11 v11 v120 v121 2#32
      (harg1.unread x0) (harg2.unread x1) (harg3.unread x2) (harg4.unread x3) (harg5.unread x4) (harg6.unread x5) (harg7.unread x6)
      init n
      = (states x0 x1 x2 x3 x4 x5 x6 x9 (n + 1), states x0 x1 x2 x3 x4 x5 x6 x9 n)
  | 0, _ => (st_k0_t1_zero ..).trans hinit
  | n + 1, hn => by
    have hk : n < k0_t1_loop.trips := by rw [trips_eq]; omega
    have ih := loop_eq v11 v120 v121 init h11 h120 h121 hinit n (by omega)
    refine (st_k0_t1_succ (F := Ideal) Variants.none c none i arg1 harg1 arg2 harg2 arg3 harg3 arg4 harg4 arg5 harg5 arg6 harg6
      arg7 harg7 arg8 harg8 arg9 harg9 arg10 harg10 arg11 harg11 v11 v120 v121 2#32
      (harg1.unread x0) (harg2.unread x1) (harg3.unread x2) (harg4.unread x3) (harg5.unread x4) (harg6.unread x5) (harg7.unread x6)
      init ⟨n, hk⟩).trans ?_
    rw [show (⟨n, hk⟩ : Fin k0_t1_loop.trips).val = n from rfl, ih, trip_eq]
    subst h11
    exact congrArg (·, states x0 x1 x2 x3 x4 x5 x6 x9 (n + 1))
      (later_eq x0 x1 x2 x3 x4 x5 x6 x9 ⟨n, hk⟩ (by show n < 48; omega) v120 v121 _ rfl h120 h121)

/-- The output block of a grid point: row `b`'s result `q` is the last affine map of its last state. -/
theorem out_eq :
    out0_A_10 (F := Ideal) c i arg1 harg1 arg2 harg2 arg3 harg3 arg4 harg4 arg5 harg5 arg6 harg6 arg7 harg7 arg8 harg8 arg9 harg9
      arg10 harg10 arg11 harg11 x0 x1 x2 x3 x4 x5 x6 x7 x8 x9
    = k0_pay2 (states x0 x1 x2 x3 x4 x5 x6 x9 49) x7 x8 := by
  unfold out0_A_10
  rw [View.read_writes_junk_eq_canon]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread]
  rw [View.canon_unit_zero (S := S128x128) zeros2, View.ld_unit_zero (S := S1x1) zeros2, View.ld_unit_zero (S := S128x64) zeros2,
    View.ld_unit_zero (S := S1x256) zeros2, View.ld_unit_zero (S := S1x256) zeros2, View.ld_unit_zero (S := S256x256) zeros2,
    View.ld_unit_zero (S := S1x256) zeros2, View.ld_unit_zero (S := S1x256) zeros2, View.ld_unit_zero (S := S1x256) zeros2,
    View.ld_unit_zero (S := S256x128) zeros2, View.ld_unit_zero (S := S1x128) zeros2,
    first_eq x0 x1 x2 x3 x4 x5 x6 x9, second_eq x0 x1 x2 x3 x4 x5 x6 x9,
    show Scf.trips (2#32) (Scalar.addi 2#32 48#32) 1#32 = 48 by decide +kernel,
    loop_eq c i arg1 harg1 arg2 harg2 arg3 harg3 arg4 harg4 arg5 harg5 arg6 harg6 arg7 harg7 arg8 harg8 arg9 harg9 arg10 harg10
      arg11 harg11 x0 x1 x2 x3 x4 x5 x6 x9 _ _ _ _ rfl rfl rfl rfl 48 (le_refl _)]

end Cert.Proof.KernelBlock

end
-- ==== Proof.KernelArray.lean ====
/- The kernel's result array as one function of its argument arrays. The lines before the grid pad or reshape the
   arguments; a grid point takes 128 rows of the padded sequences and the whole of every other array; the point's output
   block is what KernelBlock.lean says; the eight blocks tile the 1024 rows; and the one line after the grid keeps the
   first ten columns, where the padding does not reach (`run`). -/
module

public import proofs.«01_k».proof.Proof.KernelBlock
public import Idealize.ShloMosaic.Lib.StableHlo.ReadAt
public import Idealize.ShloMosaic.Lib.StableHlo.RunRead

@[expose] public section

noncomputable section

namespace Cert.Proof.KernelArray

open Cert.KernelIdeal Cert.KernelIdeal.Gen Cert.Proof.Spec Cert.Proof.KernelStep
open Idealize.ShloMosaic Idealize.ShloMosaic.TcCoe Idealize.ShloMosaic.StableHlo Idealize.SL.Sem
open scoped BigOperators

variable (m : (ℓ : Loc nD τ sig) → Buf (Elt Ideal) ℓ) (ρ : Dev nD → PrngReg)

/-! ## The arrays that the grid reads -/

/-- The sequences, padded to 64 columns. -/
theorem V_x (c : Dev nD) (b : Fin 1024) (t : Fin 64) (h : t.val < 50) :
    V m c main_call0_v1 (ix2 b t) = m ((c.tc : Thread nD τ).loc main_arg0) (ix3 b ⟨t.val, h⟩ 0) := by
  show after hostOps0 _ _ _ = _
  after_reads_at
  exact dif_pos h

theorem V_eb (c : Dev nD) (d : Fin 256) :
    V m c main_call0_v5 (ix2 0 d) = m ((c.tc : Thread nD τ).loc main_arg2) (ix1 d) := by
  show after hostOps0 _ _ _ = _
  after_reads_at

theorem V_ub (c : Dev nD) (d : Fin 256) :
    V m c main_call0_v6 (ix2 0 d) = m ((c.tc : Thread nD τ).loc main_arg4) (ix1 d) := by
  show after hostOps0 _ _ _ = _
  after_reads_at

theorem V_ng (c : Dev nD) (d : Fin 256) :
    V m c main_call0_v7 (ix2 0 d) = m ((c.tc : Thread nD τ).loc main_arg5) (ix1 d) := by
  show after hostOps0 _ _ _ = _
  after_reads_at

theorem V_nb (c : Dev nD) (d : Fin 256) :
    V m c main_call0_v8 (ix2 0 d) = m ((c.tc : Thread nD τ).loc main_arg6) (ix1 d) := by
  show after hostOps0 _ _ _ = _
  after_reads_at

/-- The last affine map, padded to 128 columns. -/
theorem V_oW (c : Dev nD) (k : Fin 256) (q : Fin 128) (h : q.val < 10) :
    V m c main_call0_v2 (ix2 k q) = m ((c.tc : Thread nD τ).loc main_arg7) (ix2 k ⟨q.val, h⟩) := by
  show after hostOps0 _ _ _ = _
  after_reads_at
  exact dif_pos h

theorem V_ob (c : Dev nD) (q : Fin 128) (h : q.val < 10) :
    V m c main_call0_v4 (ix2 0 q) = m ((c.tc : Thread nD τ).loc main_arg8) (ix1 ⟨q.val, h⟩) := by
  show after hostOps0 _ _ _ = _
  after_reads_at
  exact dif_pos h

theorem V_cs (c : Dev nD)  :
    V m c main_call0_v9 (ix2 0 0) = m ((c.tc : Thread nD τ).loc main_arg9) (ix0) := by
  show after hostOps0 _ _ _ = _
  after_reads_at

/-! ## The blocks of a grid point -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

/-- Row `b` of grid point `t`'s block is this row of the array. -/
def row (t : Fin cfg0.N) (b : Fin 128) : Fin 1024 := ⟨t.val * 128 + b.val, by
  have h : t.val < 8 := t.isLt
  omega⟩

theorem blk0 (c : Dev nD) (t : Fin cfg0.N) (b : Fin 128) (s : Fin 64) :
    iblk m c 0 t (ix2 b s) = V m c main_call0_v1 (ix2 (row t b) s) := by
  obtain ⟨e0, e1⟩ := idx0 t
  show V m c main_call0_v1 (((cfg0.win 0).blk t).view.emb (ix2 b s)) = _
  refine congrArg (V m c main_call0_v1) (funext fun a => Fin.ext ?_)
  match a with
  | ⟨0, _⟩ => show win0_0.index t (0 : Fin 2) * 128 + 1 * b.val = t.val * 128 + b.val; omega
  | ⟨1, _⟩ => show win0_0.index t (1 : Fin 2) * 64 + 1 * s.val = s.val; omega

theorem blk1 (c : Dev nD) (t : Fin cfg0.N) : iblk m c 1 t = V m c main_arg1 := by
  obtain ⟨e0, e1⟩ := idx1 t
  funext j
  show V m c main_arg1 (((cfg0.win 1).blk t).view.emb j) = _
  refine congrArg (V m c main_arg1) (funext fun a => Fin.ext ?_)
  match a with
  | ⟨0, _⟩ => show win0_1.index t (0 : Fin 2) * 1 + 1 * (j 0).val = (j 0).val; omega
  | ⟨1, _⟩ => show win0_1.index t (1 : Fin 2) * 256 + 1 * (j 1).val = (j 1).val; omega

theorem blk2 (c : Dev nD) (t : Fin cfg0.N) : iblk m c 2 t = V m c main_call0_v5 := by
  obtain ⟨e0, e1⟩ := idx2 t
  funext j
  show V m c main_call0_v5 (((cfg0.win 2).blk t).view.emb j) = _
  refine congrArg (V m c main_call0_v5) (funext fun a => Fin.ext ?_)
  match a with
  | ⟨0, _⟩ => show win0_2.index t (0 : Fin 2) * 1 + 1 * (j 0).val = (j 0).val; omega
  | ⟨1, _⟩ => show win0_2.index t (1 : Fin 2) * 256 + 1 * (j 1).val = (j 1).val; omega

theorem blk3 (c : Dev nD) (t : Fin cfg0.N) : iblk m c 3 t = V m c main_arg3 := by
  obtain ⟨e0, e1⟩ := idx3 t
  funext j
  show V m c main_arg3 (((cfg0.win 3).blk t).view.emb j) = _
  refine congrArg (V m c main_arg3) (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

theorem blk4 (c : Dev nD) (t : Fin cfg0.N) : iblk m c 4 t = V m c main_call0_v6 := by
  obtain ⟨e0, e1⟩ := idx4 t
  funext j
  show V m c main_call0_v6 (((cfg0.win 4).blk t).view.emb j) = _
  refine congrArg (V m c main_call0_v6) (funext fun a => Fin.ext ?_)
  match a with
  | ⟨0, _⟩ => show win0_4.index t (0 : Fin 2) * 1 + 1 * (j 0).val = (j 0).val; omega
  | ⟨1, _⟩ => show win0_4.index t (1 : Fin 2) * 256 + 1 * (j 1).val = (j 1).val; omega

theorem blk5 (c : Dev nD) (t : Fin cfg0.N) : iblk m c 5 t = V m c main_call0_v7 := by
  obtain ⟨e0, e1⟩ := idx5 t
  funext j
  show V m c main_call0_v7 (((cfg0.win 5).blk t).view.emb j) = _
  refine congrArg (V m c main_call0_v7) (funext fun a => Fin.ext ?_)
  match a with
  | ⟨0, _⟩ => show win0_5.index t (0 : Fin 2) * 1 + 1 * (j 0).val = (j 0).val; omega
  | ⟨1, _⟩ => show win0_5.index t (1 : Fin 2) * 256 + 1 * (j 1).val = (j 1).val; omega

theorem blk6 (c : Dev nD) (t : Fin cfg0.N) : iblk m c 6 t = V m c main_call0_v8 := by
  obtain ⟨e0, e1⟩ := idx6 t
  funext j
  show V m c main_call0_v8 (((cfg0.win 6).blk t).view.emb j) = _
  refine congrArg (V m c main_call0_v8) (funext fun a => Fin.ext ?_)
  match a with
  | ⟨0, _⟩ => show win0_6.index t (0 : Fin 2) * 1 + 1 * (j 0).val = (j 0).val; omega
  | ⟨1, _⟩ => show win0_6.index t (1 : Fin 2) * 256 + 1 * (j 1).val = (j 1).val; omega

theorem blk7 (c : Dev nD) (t : Fin cfg0.N) : iblk m c 7 t = V m c main_call0_v2 := by
  obtain ⟨e0, e1⟩ := idx7 t
  funext j
  show V m c main_call0_v2 (((cfg0.win 7).blk t).view.emb j) = _
  refine congrArg (V m c main_call0_v2) (funext fun a => Fin.ext ?_)
  match a with
  | ⟨0, _⟩ => show win0_7.index t (0 : Fin 2) * 256 + 1 * (j 0).val = (j 0).val; omega
  | ⟨1, _⟩ => show win0_7.index t (1 : Fin 2) * 128 + 1 * (j 1).val = (j 1).val; omega

theorem blk8 (c : Dev nD) (t : Fin cfg0.N) : iblk m c 8 t = V m c main_call0_v4 := by
  obtain ⟨e0, e1⟩ := idx8 t
  funext j
  show V m c main_call0_v4 (((cfg0.win 8).blk t).view.emb j) = _
  refine congrArg (V m c main_call0_v4) (funext fun a => Fin.ext ?_)
  match a with
  | ⟨0, _⟩ => show win0_8.index t (0 : Fin 2) * 1 + 1 * (j 0).val = (j 0).val; omega
  | ⟨1, _⟩ => show win0_8.index t (1 : Fin 2) * 128 + 1 * (j 1).val = (j 1).val; omega

theorem blk9 (c : Dev nD) (t : Fin cfg0.N) : iblk m c 9 t = V m c main_call0_v9 := by
  obtain ⟨e0, e1⟩ := idx9 t
  funext j
  show V m c main_call0_v9 (((cfg0.win 9).blk t).view.emb j) = _
  refine congrArg (V m c main_call0_v9) (funext fun a => Fin.ext ?_)
  match a with
  | ⟨0, _⟩ => show win0_9.index t (0 : Fin 2) * 1 + 1 * (j 0).val = (j 0).val; omega
  | ⟨1, _⟩ => show win0_9.index t (1 : Fin 2) * 1 + 1 * (j 1).val = (j 1).val; omega

/-! ## The output array after the grid -/

/-- The parameters as the arguments hold them. -/
def P (c : Dev nD) : Params :=
  argParams (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg9))

/-- They are what a grid point's blocks hold. -/
theorem params_eq (c : Dev nD) : params (V m c main_arg1) (V m c main_call0_v5) (V m c main_arg3) (V m c main_call0_v6)
    (V m c main_call0_v7) (V m c main_call0_v8) (V m c main_call0_v9) = P m c := by
  unfold params P argParams
  rw [Params.mk.injEq]
  exact ⟨funext fun d => congrFun (V_main_arg1 m c) _, funext fun d => V_eb m c d,
    funext fun k => funext fun d => congrFun (V_main_arg3 m c) _, funext fun d => V_ub m c d, funext fun d => V_ng m c d,
    funext fun d => V_nb m c d, congrArg Ideal.logistic (V_cs m c)⟩

/-- The output array: the last affine map, padded, of the last state of the row's sequence. -/
def G (c : Dev nD) : Vec Ideal S1024x128 .f32 := fun j =>
  logit (fun k => V m c main_call0_v2 (ix2 k (j 1))) (V m c main_call0_v4 (ix2 0 (j 1)))
    (state (P m c) (argSeq (m ((c.tc : Thread nD τ).loc main_arg0)) (j 0)) 49)

/-- The first fifty inputs of a row of the block are the row's sequence. -/
theorem seq_eq (c : Dev nD) (t : Fin cfg0.N) (b : Fin 128) (s : ℕ) (hs : s ≤ 49) :
    seqOf (iblk m c 0 t) b s = argSeq (m ((c.tc : Thread nD τ).loc main_arg0)) (row t b) s := by
  unfold seqOf argSeq
  rw [dif_pos (show s < 64 by omega), dif_pos (show s < 50 by omega), blk0, V_x m c (row t b) ⟨s, by omega⟩ (by show s < 50; omega)]

theorem flushed_eq (c : Dev nD) (t : Fin cfg0.N) :
    (dats m 0 c).flushed 10 t = ((cfg0.win 10).blk t).view.read (Elt Ideal) (G m c) := by
  have hb : ∀ (b q : Fin 128), outsAt0 m c t (ix2 b q) = G m c (ix2 (row t b) q) := by
    intro b q
    unfold outsAt0
    rw [KernelBlock.out_eq, result_eq, blk1, blk2, blk3, blk4, blk5, blk6, blk7, blk8, blk9]
    refine congrArg (logit (fun k => V m c main_call0_v2 (ix2 k q)) (V m c main_call0_v4 (ix2 0 q))) (funext fun k => ?_)
    rw [states_apply, params_eq]
    exact congrFun (state_congr (P m c) _ _ 49 fun s hs => seq_eq m c t b s hs) k
  funext j
  show (cfg0.win 10).cut (grid0.coords t) ((dats m 0 c).after 10 t) j = G m c (((cfg0.win 10).blk t).view.emb j)
  rw [after0_10]
  refine Eq.trans (?_ : _ = outsAt0 m c t (ix2 (j 0) (j 1))) ((hb (j 0) (j 1)).trans (congrArg (G m c) ?_))
  · exact congrArg (outsAt0 m c t) (eq_ix2 j)
  · obtain ⟨e0, e1⟩ := idx10 t
    funext a; apply Fin.ext
    match a with
    | ⟨0, _⟩ => show t.val * 128 + (j 0).val = win0_10.index t (0 : Fin 2) * 128 + 1 * (j 0).val; omega
    | ⟨1, _⟩ => show (j 1).val = win0_10.index t (1 : Fin 2) * 128 + 1 * (j 1).val; omega

/-- Every row is in the block of one grid point. -/
theorem covered (i : S1024x128.Idx) : ∃ t : Fin cfg0.N, (cfg0.win 10).flush t = true ∧ i ∈ ((cfg0.win 10).blk t).view.set := by
  have hi : (i 0).val < 1024 := (i 0).isLt
  have ht : (i 0).val / 128 < 8 := by omega
  refine ⟨⟨(i 0).val / 128, ht⟩, flush0_10 _, ?_⟩
  have h := ((cfg0.win 10).blk (⟨(i 0).val / 128, ht⟩ : Fin cfg0.N)).view.emb_mem_set
    (ix2 ⟨(i 0).val % 128, Nat.mod_lt _ (by omega)⟩ (i 1))
  refine (congrArg (· ∈ ((cfg0.win 10).blk (⟨(i 0).val / 128, ht⟩ : Fin cfg0.N)).view.set) (funext fun a => Fin.ext ?_)).mp h
  obtain ⟨e0, e1⟩ := idx10 ⟨(i 0).val / 128, ht⟩
  have e0' : win0_10.index ⟨(i 0).val / 128, ht⟩ (0 : Fin 2) = (i 0).val / 128 := e0
  match a with
  | ⟨0, _⟩ => show win0_10.index ⟨(i 0).val / 128, ht⟩ (0 : Fin 2) * 128 + 1 * ((i 0).val % 128) = (i 0).val; omega
  | ⟨1, _⟩ => show win0_10.index ⟨(i 0).val / 128, ht⟩ (1 : Fin 2) * 128 + 1 * (i 1).val = (i 1).val; omega

theorem final10 (c : Dev nD) : (dats m 0 c).arrAt 10 cfg0.N = G m c :=
  (dats m 0 c).arrAt_eq_of_cover 10 (G m c) (fun t _ => flushed_eq m c t) covered

/-! ## The result -/

/-- The kernel's result array. -/
def out (c : Dev nD) : Vec Ideal S1024x10 .f32 := fun j =>
  result (m ((c.tc : Thread nD τ).loc main_arg0)) (P m c) (m ((c.tc : Thread nD τ).loc main_arg7))
    (m ((c.tc : Thread nD τ).loc main_arg8)) (j 0) (j 1)

/-- What the line after the grid leaves in the result array. -/
theorem tail_eq (c : Dev nD) : Pipeline.afterTail₀ cfgs (dats m) 0 (V0 m) [hostOps1] c main_v0 = out m c := by
  have hbq : ∀ (b : Fin 1024) (q : Fin 10),
      Pipeline.afterTail₀ cfgs (dats m) 0 (V0 m) [hostOps1] c main_v0 (ix2 b q) = out m c (ix2 b q) := by
    intro b q
    show after hostOps1 _ _ _ = _
    after_reads_at
    have h := Pipeline.withArrays_arr spec0 winFacts0.arr_inj c (V0 m c) (fun w => (dats m 0 c).arrAt w cfg0.N) 10
    refine (congrFun h (ix2 b ⟨q.val, by omega⟩)).trans ?_
    show (dats m 0 c).arrAt 10 cfg0.N (ix2 b ⟨q.val, by omega⟩) = _
    rw [final10]
    show logit (fun k => V m c main_call0_v2 (ix2 k ⟨q.val, by omega⟩)) (V m c main_call0_v4 (ix2 0 ⟨q.val, by omega⟩)) _ = _
    rw [V_ob m c ⟨q.val, by omega⟩ q.isLt, funext fun k => V_oW m c k ⟨q.val, by omega⟩ q.isLt]
    rfl
  exact ext2 (f := Pipeline.afterTail₀ cfgs (dats m) 0 (V0 m) [hostOps1] c main_v0) (g := out m c) hbq

/-- Every run of the kernel ends with the result array at `out` and the arguments as launched. -/
theorem run : θ_run defs (onTc (τ := τ) (main (F := Ideal))) ⟨m, fun _ => 0, ρ⟩ fun r => ∀ c : Dev nD,
      r.2.mem ((c.tc : Thread nD τ).loc main_v0) = out m c :=
  (θ_run defs _ _).mono (fun r h c =>
    ((h c).2 main_v0 (Pipeline.mem_restRefs_of main_v0 (by decide) (by decide))).trans (tail_eq m c)) (run_main m ρ)

end Cert.Proof.KernelArray

end
-- ==== Proof.RefIndex.lean ====
/- How one trip of the reference reads and writes its memory: the gather reads, for each sequence, five of the 64 rows by
   their numbers (`gather_at`); the scatter writes each sequence's new row at one place (`scatter_at`). -/
module

public import proofs.«01_k».proof.Proof.Gen.ReferenceIdeal.Run
public import Idealize.ShloMosaic.Lib.Pointwise
public import Idealize.ShloMosaic.Lib.Routing.OpsSet

@[expose] public section

noncomputable section

namespace Cert.Proof.RefIndex

open Cert.ReferenceIdeal
open Idealize.ShloMosaic

/-- How the gather's axes are matched. -/
abbrev gd := gather_S1024x64x256_S1024x5x1_S1024x5x256_2_1_0_0_1_2_11256
/-- How the scatter's axes are matched. -/
abbrev sd := scatter_S1024x64x256_S1024x2_S1024x256_1_01_01_1

/-- A small number as a signed word. -/
theorem toInt_small (n : ℕ) (h : n < 2048) : (BitVec.ofNat 32 n).toInt = (n : ℤ) :=
  StableHlo.Predicate.toInt_ofNat_small n (by omega)

/-- The gather reads, of sequence `b`, the row whose number it is given. -/
theorem gather_at {α : Type} (x : S1024x64x256.Idx → α) (idx : IVec S1024x5x1 32) (b : Fin 1024) (o : Fin 5) (d : Fin 256)
    (s : Fin 64) (h : idx (ix3 b o 0) = BitVec.ofNat 32 s.val) :
    Host.gather gd x idx (ix3 b o d) = x (ix3 b s d) := by
  unfold Host.gather
  refine congrArg x (funext fun a => Fin.ext ?_)
  show GatherDims.start _ _ idx a + GatherDims.batchCoord _ _ a + GatherDims.offCoord _ _ a = _
  match a with
  | ⟨0, _⟩ =>
    unfold GatherDims.start GatherDims.batchCoord GatherDims.offCoord
    rw [dif_neg (by decide +revert), dif_pos (by decide +revert), dif_neg (by decide +revert)]
    show 0 + b.val + 0 = b.val
    omega
  | ⟨1, _⟩ =>
    unfold GatherDims.start GatherDims.batchCoord GatherDims.offCoord
    rw [dif_pos (by decide +revert), dif_neg (by decide +revert), dif_neg (by decide +revert)]
    have hs : GatherDims.siIdx gd (ix3 b o d) ⟨0, by decide⟩ = ix3 b o 0 := by
      funext e; apply Fin.ext
      match e with
      | ⟨0, _⟩ => rfl
      | ⟨1, _⟩ => rfl
      | ⟨2, _⟩ => rfl
    show min (idx (GatherDims.siIdx gd (ix3 b o d) ⟨0, by decide⟩)).toInt.toNat (64 - 1) + 0 + 0 = s.val
    rw [hs, h, toInt_small _ (by omega)]
    omega
  | ⟨2, _⟩ =>
    unfold GatherDims.start GatherDims.batchCoord GatherDims.offCoord
    rw [dif_neg (by decide +revert), dif_neg (by decide +revert), dif_pos (by decide +revert)]
    show 0 + 0 + d.val = d.val
    omega

/-- Update `(b, d)` of the scatter lands in sequence `b`'s memory, in the row whose number it is given. -/
theorem lands (idx : IVec S1024x2 32) (t : Fin 64) (b : Fin 1024) (d : Fin 256) (h0 : idx (ix2 b 0) = BitVec.ofNat 32 b.val)
    (h1 : idx (ix2 b 1) = BitVec.ofNat 32 t.val) :
    ScatterDims.resultIdx? sd (ix2 b d) idx = some (ix3 b t d) := by
  have e0 : ScatterDims.siIdx sd (ix2 b d) ⟨0, by decide⟩ = ix2 b 0 := by
    funext e; apply Fin.ext
    match e with
    | ⟨0, _⟩ => rfl
    | ⟨1, _⟩ => rfl
  have e1 : ScatterDims.siIdx sd (ix2 b d) ⟨1, by decide⟩ = ix2 b 1 := by
    funext e; apply Fin.ext
    match e with
    | ⟨0, _⟩ => rfl
    | ⟨1, _⟩ => rfl
  have s0 : ScatterDims.start sd (ix2 b d) idx 0 = (b.val : ℤ) := by
    unfold ScatterDims.start
    rw [dif_pos (by decide)]
    show (idx (ScatterDims.siIdx sd (ix2 b d) ⟨0, by decide⟩)).toInt = _
    rw [e0, h0, toInt_small _ (by omega)]
  have s1 : ScatterDims.start sd (ix2 b d) idx 1 = (t.val : ℤ) := by
    unfold ScatterDims.start
    rw [dif_pos (by decide)]
    show (idx (ScatterDims.siIdx sd (ix2 b d) ⟨1, by decide⟩)).toInt = _
    rw [e1, h1, toInt_small _ (by omega)]
  have s2 : ScatterDims.start sd (ix2 b d) idx 2 = 0 := by
    unfold ScatterDims.start
    rw [dif_neg (by decide)]
  have w0 : ScatterDims.window sd (ix2 b d) 0 = 0 := by
    unfold ScatterDims.window; rw [dif_neg (by decide)]
  have w1 : ScatterDims.window sd (ix2 b d) 1 = 0 := by
    unfold ScatterDims.window; rw [dif_neg (by decide)]
  have w2 : ScatterDims.window sd (ix2 b d) 2 = d.val := by
    unfold ScatterDims.window; rw [dif_pos (by decide)]; rfl
  have hb := b.isLt
  have ht := t.isLt
  have hd := d.isLt
  unfold ScatterDims.resultIdx?
  rw [dif_pos]
  · refine congrArg some (funext fun a => Fin.ext ?_)
    match a with
    | ⟨0, _⟩ =>
      show (ScatterDims.start sd (ix2 b d) idx 0 + (ScatterDims.window sd (ix2 b d) 0 : ℕ)).toNat = b.val
      rw [s0, w0]; omega
    | ⟨1, _⟩ =>
      show (ScatterDims.start sd (ix2 b d) idx 1 + (ScatterDims.window sd (ix2 b d) 1 : ℕ)).toNat = t.val
      rw [s1, w1]; omega
    | ⟨2, _⟩ =>
      show (ScatterDims.start sd (ix2 b d) idx 2 + (ScatterDims.window sd (ix2 b d) 2 : ℕ)).toNat = d.val
      rw [s2, w2]; omega
  · intro a
    match a with
    | ⟨0, _⟩ =>
      show 0 ≤ ScatterDims.start sd (ix2 b d) idx 0 + (ScatterDims.window sd (ix2 b d) 0 : ℕ) ∧ ScatterDims.start sd (ix2 b d) idx 0 + (ScatterDims.window sd (ix2 b d) 0 : ℕ) < (1024 : ℕ)
      rw [s0, w0]; omega
    | ⟨1, _⟩ =>
      show 0 ≤ ScatterDims.start sd (ix2 b d) idx 1 + (ScatterDims.window sd (ix2 b d) 1 : ℕ) ∧ ScatterDims.start sd (ix2 b d) idx 1 + (ScatterDims.window sd (ix2 b d) 1 : ℕ) < (64 : ℕ)
      rw [s1, w1]; omega
    | ⟨2, _⟩ =>
      show 0 ≤ ScatterDims.start sd (ix2 b d) idx 2 + (ScatterDims.window sd (ix2 b d) 2 : ℕ) ∧ ScatterDims.start sd (ix2 b d) idx 2 + (ScatterDims.window sd (ix2 b d) 2 : ℕ) < (256 : ℕ)
      rw [s2, w2]; omega

/-- The scatter puts every sequence's update in row `t` of its memory and keeps the other rows. -/
theorem scatter_at {α : Type} (x : S1024x64x256.Idx → α) (idx : IVec S1024x2 32) (upd : S1024x256.Idx → α) (t : Fin 64)
    (h0 : ∀ b : Fin 1024, idx (ix2 b 0) = BitVec.ofNat 32 b.val) (h1 : ∀ b : Fin 1024, idx (ix2 b 1) = BitVec.ofNat 32 t.val)
    (b : Fin 1024) (j : Fin 64) (d : Fin 256) :
    Host.scatter sd (fun _ u => u) x idx upd (ix3 b j d)
      = if j = t then upd (ix2 b d) else x (ix3 b j d) := by
  have hk : ∀ k : S1024x256.Idx, ScatterDims.resultIdx? sd k idx
      = some (ix3 (k 0) t (k 1)) := fun k =>
    (congrArg (fun k => ScatterDims.resultIdx? sd k idx) (eq_ix2 k)).trans
      (lands idx t (k 0) (k 1) (h0 _) (h1 _))
  by_cases e : j = t
  · subst e
    rw [if_pos rfl]
    refine Routing.scatter_set_hit _ x idx upd _ _ (fun k h => ?_) (ix2 b d) (lands idx j b d (h0 b) (h1 b))
    rw [hk k] at h
    have h' := Option.some.inj h
    have a0 : k 0 = b := congrFun h' 0
    have a2 : k 1 = d := congrFun h' 2
    refine congrArg upd ((eq_ix2 k).trans ?_)
    rw [a0, a2]
  · rw [if_neg e]
    refine Routing.scatter_set_miss _ x idx upd _ (fun k h => ?_)
    rw [hk k] at h
    exact e (congrFun (Option.some.inj h) 1).symm

end Cert.Proof.RefIndex

end
-- ==== Proof.Weights.lean ====
/- The attention weights of one step, over the extended reals. Step `t` reads five rows of the 64-row memory, those at
   distance at most two around the ring (`slot`); row `slot t o` has the weight `exp (-(slot t o - t)² / 8)`, taken to be
   zero below `exp (-104)` (`weight`). Away from the ring's seam the five weights are those of the distances 2, 1, 0, 1, 2;
   the memory holds the states before step `t` and zeros after, so what a step reads is a sum of at most two states
   (`gathered_eq`). -/
module

public import proofs.«01_k».proof.Proof.Spec

@[expose] public section

noncomputable section

namespace Cert.Proof.Weights

open Cert.Proof.Spec Idealize.ShloMosaic
open scoped BigOperators

/-! ## The constants as numbers -/

theorem ofBits_neg_half : Ideal.ofBits .f32 0xBF000000#32 = ((-(1 / 2) : ℝ) : EReal) := by
  simp [Ideal.ofBits, Ideal.ieee, -EReal.coe_mul, -EReal.coe_neg]; norm_num
theorem ofBits_neg_eighth : Ideal.ofBits .f32 0xBE000000#32 = ((-(1 / 8) : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_neg_104 : Ideal.ofBits .f32 0xC2D00000#32 = ((-104 : ℝ) : EReal) := by
  simp [Ideal.ofBits, Ideal.ieee, -EReal.coe_mul, -EReal.coe_neg]; norm_num
theorem ofBits_bot : Ideal.ofBits .f32 0xFF800000#32 = ⊥ := by
  simp [Ideal.ofBits, Ideal.ieee]

theorem far_eq : far = ((Real.exp (-(1 / 2)) : ℝ) : EReal) := by unfold far; rw [ofBits_neg_half]; rfl
theorem near_eq : near = ((Real.exp (-(1 / 8)) : ℝ) : EReal) := by unfold near; rw [ofBits_neg_eighth]; rfl

/-- A quotient of numbers. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-! ## The slots and their weights -/

/-- The row that step `t` reads as its `o`-th. -/
def slot (t : ℕ) (o : Fin 5) : Fin 64 := ⟨(t + o.val + 62) % 64, Nat.mod_lt _ (by omega)⟩

/-- The exponent of its weight. -/
def expo (t : ℕ) (o : Fin 5) : ℝ := -(((slot t o).val - t : ℝ) * ((slot t o).val - t)) / 8

/-- Its weight, before the five are divided by their sum. -/
def weight (t : ℕ) (o : Fin 5) : EReal := if expo t o < -104 then 0 else Ideal.exp (expo t o : EReal)

theorem slot_two (t : ℕ) (ht : t < 64) : (slot t 2).val = t := by
  show (t + 2 + 62) % 64 = t
  omega

theorem expo_le (t : ℕ) (o : Fin 5) : expo t o ≤ 0 := by
  unfold expo
  have := mul_self_nonneg ((slot t o).val - t : ℝ)
  linarith

/-- The greatest exponent is the one of distance zero. -/
theorem fold_max (t : ℕ) (ht : t < 64) : Finset.fold max (⊥ : EReal) (fun o => (expo t o : EReal)) Finset.univ = 0 := by
  apply le_antisymm
  · rw [Finset.fold_max_le]
    exact ⟨bot_le, fun o _ => by exact_mod_cast expo_le t o⟩
  · rw [Finset.le_fold_max]
    refine Or.inr ⟨2, Finset.mem_univ _, ?_⟩
    unfold expo
    rw [slot_two t ht]
    simp

theorem exp_coe_zero : Ideal.exp ((0 : ℝ) : EReal) = 1 := by
  show ((Real.exp 0 : ℝ) : EReal) = 1
  rw [Real.exp_zero]; rfl

/-- The weight at each squared distance that occurs. -/
theorem weight_of (t : ℕ) (o : Fin 5) (s : ℕ) (hs : (slot t o).val = s) :
    ((s : ℤ) - t = 2 ∨ (s : ℤ) - t = -2 → weight t o = far) ∧ ((s : ℤ) - t = 1 ∨ (s : ℤ) - t = -1 → weight t o = near)
      ∧ ((s : ℤ) - t = 0 → weight t o = 1) ∧ ((s : ℤ) - t ≥ 30 → weight t o = 0) := by
  have he : expo t o = -((((s : ℤ) - (t : ℤ) : ℤ) : ℝ) * (((s : ℤ) - (t : ℤ) : ℤ) : ℝ)) / 8 := by
    unfold expo; rw [hs]; push_cast; rfl
  unfold weight
  rw [he, far_eq, near_eq]
  refine ⟨fun h => ?_, fun h => ?_, fun h => ?_, fun h => ?_⟩
  · rcases h with h | h <;> rw [h, if_neg (by norm_num)] <;> refine congrArg (fun r : ℝ => ((Real.exp r : ℝ) : EReal)) ?_ <;> norm_num
  · rcases h with h | h <;> rw [h, if_neg (by norm_num)] <;> refine congrArg (fun r : ℝ => ((Real.exp r : ℝ) : EReal)) ?_ <;> norm_num
  · rw [h, if_neg (by norm_num)]
    refine Eq.trans ?_ exp_coe_zero
    refine congrArg (fun r : ℝ => ((Real.exp r : ℝ) : EReal)) ?_
    norm_num
  · rw [if_pos]
    have h' : (30 : ℝ) ≤ (((s : ℤ) - (t : ℤ) : ℤ) : ℝ) := by exact_mod_cast h
    nlinarith

/-! ## What a step reads -/

/-- The five weights' sum at a step from the third on. -/
theorem sum_later (t : ℕ) (h2 : 2 ≤ t) (ht : t < 50) : (∑ o : Fin 5, weight t o) = total := by
  have w0 := (weight_of t 0 (t - 2) (by show (t + 0 + 62) % 64 = t - 2; omega)).1 (by omega)
  have w1 := (weight_of t 1 (t - 1) (by show (t + 1 + 62) % 64 = t - 1; omega)).2.1 (by omega)
  have w2 := (weight_of t 2 t (by show (t + 2 + 62) % 64 = t; omega)).2.2.1 (by omega)
  have w3 := (weight_of t 3 (t + 1) (by show (t + 3 + 62) % 64 = t + 1; omega)).2.1 (by omega)
  have w4 := (weight_of t 4 (t + 2) (by show (t + 4 + 62) % 64 = t + 2; omega)).1 (by omega)
  rw [Fin.sum_univ_five, w0, w1, w2, w3, w4]
  unfold total one two
  rw [far_eq, near_eq, Ideal.ofBits_one_f32, ofBits_two]
  norm_cast
  ring_nf

/-- Their sum at the second step. -/
theorem sum_second : (∑ o : Fin 5, weight 1 o) = total1 := by
  have w0 := (weight_of 1 0 63 rfl).2.2.2 (by norm_num)
  have w1 := (weight_of 1 1 0 rfl).2.1 (by norm_num)
  have w2 := (weight_of 1 2 1 rfl).2.2.1 (by norm_num)
  have w3 := (weight_of 1 3 2 rfl).2.1 (by norm_num)
  have w4 := (weight_of 1 4 3 rfl).1 (by norm_num)
  rw [Fin.sum_univ_five, w0, w1, w2, w3, w4]
  unfold total1 one two
  rw [far_eq, near_eq, Ideal.ofBits_one_f32, ofBits_two]
  norm_cast
  ring_nf

theorem total_eq : total = ((1 + 2 * Real.exp (-(1 / 8)) + 2 * Real.exp (-(1 / 2)) : ℝ) : EReal) := by
  unfold total one two
  rw [far_eq, near_eq, Ideal.ofBits_one_f32, ofBits_two]
  norm_cast
theorem total1_eq : total1 = ((1 + 2 * Real.exp (-(1 / 8)) + Real.exp (-(1 / 2)) : ℝ) : EReal) := by
  unfold total1 one two
  rw [far_eq, near_eq, Ideal.ofBits_one_f32, ofBits_two]
  norm_cast

/-- A normalised weight is a number that is not negative. -/
theorem share_real (x y : EReal) (a b : ℝ) (hx : x = a) (hy : y = b) (ha : 0 ≤ a) (hb : 0 < b) :
    0 ≤ Ideal.div x y ∧ Ideal.div x y ≠ ⊤ := by
  rw [hx, hy, div_coe a b (ne_of_gt hb)]
  exact ⟨by exact_mod_cast div_nonneg ha (le_of_lt hb), EReal.coe_ne_top _⟩

/-- The strength is a number that is not negative. -/
theorem logistic_real (x : EReal) : 0 ≤ Ideal.logistic x ∧ Ideal.logistic x ≠ ⊤ := by
  unfold Ideal.logistic
  have he : ∀ y : EReal, 0 ≤ Ideal.exp y := fun y => by
    induction y with
    | bot => exact le_refl _
    | top => exact le_top
    | coe r =>
      show (0 : EReal) ≤ ((Real.exp r : ℝ) : EReal)
      exact_mod_cast (Real.exp_pos r).le
  have h := he (-x)
  generalize Ideal.exp (-x) = y at h
  induction y with
  | bot => exact absurd h (by simp)
  | top =>
    unfold Ideal.div
    have ht : (1 : EReal) + ⊤ = ⊤ := by exact_mod_cast EReal.coe_add_top 1
    rw [ht, if_neg (by simp)]
    simp
  | coe r =>
    have hr : 0 ≤ r := by exact_mod_cast h
    exact share_real 1 (1 + (r : EReal)) 1 (1 + r) rfl (by norm_cast) (by norm_num) (by linarith)

/-- The states before step `t`, zero from there on. -/
def memory (st : ℕ → EReal) (t j : ℕ) : EReal := if j < t then st j else 0

/-- The state before step `t`, zero at the first. -/
def last (st : ℕ → EReal) : ℕ → EReal
  | 0 => 0
  | t + 1 => st t

/-- What step `t` reads: the five rows at their normalised weights. -/
def read (st : ℕ → EReal) (t : ℕ) : EReal :=
  ∑ o : Fin 5, Ideal.div (weight t o) (∑ o' : Fin 5, weight t o') * memory st t (slot t o).val

theorem read_zero (st : ℕ → EReal) : read st 0 = 0 := by
  unfold read memory
  simp

theorem read_one (st : ℕ → EReal) : read st 1 = Ideal.div near total1 * st 0 := by
  unfold read
  rw [sum_second, Fin.sum_univ_five, (weight_of 1 1 0 rfl).2.1 (by norm_num)]
  unfold memory
  rw [if_neg (show ¬ (slot 1 0).val < 1 by decide), if_pos (show (slot 1 1).val < 1 by decide),
    if_neg (show ¬ (slot 1 2).val < 1 by decide), if_neg (show ¬ (slot 1 3).val < 1 by decide),
    if_neg (show ¬ (slot 1 4).val < 1 by decide), show (slot 1 1).val = 0 by decide]
  simp

theorem read_later (st : ℕ → EReal) (t : ℕ) (ht : t + 2 < 50) :
    read st (t + 2) = Ideal.div far total * st t + Ideal.div near total * st (t + 1) := by
  have s0 : (slot (t + 2) 0).val = t := by show (t + 2 + 0 + 62) % 64 = t; omega
  have s1 : (slot (t + 2) 1).val = t + 1 := by show (t + 2 + 1 + 62) % 64 = t + 1; omega
  have s2 : (slot (t + 2) 2).val = t + 2 := by show (t + 2 + 2 + 62) % 64 = t + 2; omega
  have s3 : (slot (t + 2) 3).val = t + 3 := by show (t + 2 + 3 + 62) % 64 = t + 3; omega
  have s4 : (slot (t + 2) 4).val = t + 4 := by show (t + 2 + 4 + 62) % 64 = t + 4; omega
  unfold read
  rw [sum_later (t + 2) (by omega) ht, Fin.sum_univ_five, (weight_of (t + 2) 0 t s0).1 (by omega),
    (weight_of (t + 2) 1 (t + 1) s1).2.1 (by omega), s0, s1, s2, s3, s4]
  unfold memory
  rw [if_pos (by omega), if_pos (by omega), if_neg (by omega), if_neg (by omega), if_neg (by omega)]
  simp

/-! ## The step's equation -/

/-- One step as the reference writes it — the embedding, the strength times what was read, and the last state — is the
    recursion's step. -/
theorem gathered_eq (P : Params) (x : ℕ → EReal) (y : EReal) (hcs : P.cs = Ideal.logistic y) (t : ℕ) (ht : t < 50) :
    update P (fun d => (embed P (x t) d + P.cs * read (fun s => state P x s d) t) + last (fun s => state P x s d) t)
      = state P x t := by
  have hc := logistic_real y
  rw [← hcs] at hc
  have e8 := Real.exp_pos (-(1 / 8) : ℝ)
  have e2 := Real.exp_pos (-(1 / 2) : ℝ)
  match t with
  | 0 =>
    rw [state_zero]
    refine congrArg (update P) (funext fun d => ?_)
    rw [read_zero, mul_zero, add_zero]
    exact add_zero _
  | 1 =>
    rw [state_one]
    refine congrArg (update P) (funext fun d => ?_)
    have hn := share_real near total1 _ _ near_eq total1_eq e8.le (by linarith)
    rw [read_one]
    show embed P (x 1) d + P.cs * (Ideal.div near total1 * state P x 0 d) + state P x 0 d
      = embed P (x 1) d + (P.cs * Ideal.div near total1 + 1) * state P x 0 d
    rw [EReal.right_distrib_of_nonneg (EReal.mul_nonneg hc.1 hn.1) zero_le_one, one_mul, mul_assoc, add_assoc]
  | t + 2 =>
    rw [state_succ]
    refine congrArg (update P) (funext fun d => ?_)
    have hf := share_real far total _ _ far_eq total_eq e2.le (by linarith)
    have hn := share_real near total _ _ near_eq total_eq e8.le (by linarith)
    rw [read_later _ t ht]
    show embed P (x (t + 2)) d + P.cs * (Ideal.div far total * state P x t d + Ideal.div near total * state P x (t + 1) d)
        + state P x (t + 1) d
      = (embed P (x (t + 2)) d + (P.cs * Ideal.div far total) * state P x t d)
        + (P.cs * Ideal.div near total + 1) * state P x (t + 1) d
    rw [EReal.right_distrib_of_nonneg (EReal.mul_nonneg hc.1 hn.1) zero_le_one, one_mul,
      EReal.left_distrib_of_nonneg_of_ne_top hc.1 hc.2, mul_assoc, mul_assoc, add_assoc, add_assoc, add_assoc]

end Cert.Proof.Weights

end
-- ==== Proof.RefStretch.lean ====
/- What each stretch of one trip of the reference's loop computes, read at an index: given what its inputs hold, what its
   outputs hold. Step `t`'s pointer is the number `t`, its five rows are `slot t`, their weights `weight t`
   (Weights.lean), and the new state is the normalised `tanh` of the affine map of what was gathered (Spec.lean). -/
module

public import proofs.«01_k».proof.Proof.RefIndex
public import proofs.«01_k».proof.Proof.Weights
public import Idealize.ShloMosaic.Lib.StableHlo.ReadAt
public import Idealize.ShloMosaic.Lib.StableHlo.RunRead

@[expose] public section

noncomputable section

namespace Cert.Proof.RefStretch

open Cert.ReferenceIdeal Cert.ReferenceIdeal.Gen Cert.ReferenceIdeal.Value Cert.Proof.Spec Cert.Proof.Weights
open Idealize.ShloMosaic Idealize.ShloMosaic.TcCoe Idealize.ShloMosaic.StableHlo
open scoped BigOperators

variable (V : Valuation τ sig (Elt Ideal)) (t : ℕ) (ht : t < 50)

/-! ## Numbers and words -/

/-- The signed word of a small number, as a number. -/
theorem sitofp_small (n : ℕ) (h : n < 2048) : FloatOps.sitofp (F := Ideal) FTy.f32 (BitVec.ofNat 32 n) = ((n : ℝ) : EReal) := by
  show (((BitVec.ofNat 32 n).toInt : ℝ) : EReal) = _
  rw [RefIndex.toInt_small n h]
  norm_cast

/-- A small number rounded to a word. -/
theorem fptosi_small (n : ℕ) (h : n < 2048) : FloatOps.fptosi (F := Ideal) 32 (φ := FTy.f32) ((n : ℝ) : EReal) = BitVec.ofNat 32 n := by
  show Ideal.fptosi 32 ((n : ℝ) : EReal) = _
  unfold Ideal.fptosi
  rw [Ideal.toIntClamped_coe, if_pos (by positivity), Int.floor_natCast]
  have e : max (-((2 ^ (32 - 1) : ℕ) : ℤ)) (min (((2 ^ (32 - 1) : ℕ) : ℤ) - 1) (n : ℤ)) = (n : ℤ) := by
    norm_num
    omega
  rw [e]
  exact BitVec.ofInt_natCast ..

/-- The words of the five distances. -/
def offset (o : Fin 5) : BitVec 32 := IntOp.addi 4294967294#32 (BitVec.ofNat 32 o.val)

/-- The one row that a slice starting at row `t` takes. -/
theorem slice_at {α : Type} (x : S50x1024x1.Idx → α) (start : Fin S50x1024x1.rank → Int) (hr : S1x1024x1.rank = S50x1024x1.rank) (b : Fin 1024)
    (h0 : start 0 = (t : Int)) (h1 : start 1 = 0) (h2 : start 2 = 0)
    (p0 : Host.clampedStart S50x1024x1 S1x1024x1 hr start 0 < 50) (p1 : Host.clampedStart S50x1024x1 S1x1024x1 hr start 1 + b.val < 1024)
    (p2 : Host.clampedStart S50x1024x1 S1x1024x1 hr start 2 < 1) :
    x (ix3 (⟨_, p0⟩ : Fin 50) (⟨_, p1⟩ : Fin 1024) (⟨_, p2⟩ : Fin 1)) = x (ix3 (⟨t, ht⟩ : Fin 50) b 0) := by
  have e0 : Host.clampedStart S50x1024x1 S1x1024x1 hr start 0 = t :=
    Host.clampedStart_of_le hr start 0 t h0 (by show t + 1 ≤ 50; omega)
  have e1 : Host.clampedStart S50x1024x1 S1x1024x1 hr start 1 = 0 :=
    Host.clampedStart_of_le hr start 1 0 h1 (by show 0 + 1024 ≤ 1024; omega)
  have f0 : (⟨_, p0⟩ : Fin 50) = ⟨t, ht⟩ := Fin.ext e0
  have f1 : (⟨_, p1⟩ : Fin 1024) = b := Fin.ext (by show _ + b.val = b.val; rw [e1]; omega)
  have f2 : (⟨_, p2⟩ : Fin 1) = 0 := Subsingleton.elim _ _
  rw [f0, f1, f2]

/-- The slice's first row is the counter. -/
theorem start0 : upto while0Ops0 V 2 (Proc.devRef .tc main_v12_10) ix0 = V (Proc.devRef .tc main_v12_10) ix0 := by
  after_reads_at
/-- Its second start is zero. -/
theorem start1 : upto while0Ops0 V 2 (Proc.devRef .tc main_while0b_call0_c) ix0 = 0#32 := by
  after_reads_at
/-- And its third. -/
theorem start2 : upto while0Ops0 V 2 (Proc.devRef .tc main_while0b_call0_c_0) ix0 = 0#32 := by
  after_reads_at

include ht in
/-- The input of the step. -/
theorem input (hc : V (Proc.devRef .tc main_v12_10) ix0 = BitVec.ofNat 32 t) (b : Fin 1024) :
    after while0Ops0 V (Proc.devRef .tc main_while0b_v17) (ix2 b 0) = V (Proc.devRef .tc main_v12_0) (ix3 (⟨t, ht⟩ : Fin 50) b 0) := by
  have e0 := (start0 V).trans hc
  have e1 := start1 V
  have e2 := start2 V
  after_reads_at
  generalize upto while0Ops0 V 2 = W at *
  refine slice_at t ht (V (Proc.devRef .tc main_v12_0)) _ _ b ?_ ?_ ?_ _ _ _
  all_goals rw [show Shape.Idx.first h_S_ = ix0 from Subsingleton.elim _ _]
  · exact (congrArg BitVec.toInt e0).trans (RefIndex.toInt_small t (by omega))
  · exact congrArg BitVec.toInt e1
  · exact congrArg BitVec.toInt e2

/-- Its embedding. -/
theorem embedding (P : Params) (x : EReal) (b : Fin 1024) (d : Fin 256) (hx : V (Proc.devRef .tc main_while0b_v17) (ix2 b 0) = x)
    (hw : V (Proc.devRef .tc main_v12_1) (ix2 0 d) = P.eW d) (hb : V (Proc.devRef .tc main_v12_2) (ix1 d) = P.eb d) :
    after while0Ops0_1 V (Proc.devRef .tc main_while0b_v22) (ix2 b d) = embed P x d := by
  after_reads_at
  rw [Fin.sum_univ_one, hx, hw, hb]
  rfl

include ht in
/-- The pointer as a word. -/
theorem base (b : Fin 1024) (hp : V (Proc.devRef .tc main_v12_13) (ix1 b) = ((t : ℝ) : EReal)) :
    after while0Ops0_1 V (Proc.devRef .tc main_while0b_v24) (ix1 b) = BitVec.ofNat 32 t := by
  after_reads_at
  rw [hp, show Ideal.liftRound Int.floor ((t : ℝ) : EReal) = ((t : ℝ) : EReal) by
    show (((⌊(t : ℝ)⌋ : ℤ) : ℝ) : EReal) = _
    rw [Int.floor_natCast, Int.cast_natCast]]
  exact fptosi_small t (by omega)

/-- The clip's lower end. -/
theorem low : after while0Ops0_1 V (Proc.devRef .tc main_while0b_c_18) ix0 = 0#32 := by
  after_reads_at
/-- The clip's upper end. -/
theorem high : after while0Ops0_1 V (Proc.devRef .tc main_while0b_c_19) ix0 = 63#32 := by
  after_reads_at

/-- A step's number is between the two ends. -/
theorem clip_word : ∀ t : Fin 50, IntOp.minsi 63#32 (IntOp.maxsi 0#32 (BitVec.ofNat 32 t.val)) = BitVec.ofNat 32 t.val := by
  decide +kernel

include ht in
/-- The clipped pointer. -/
theorem clip (b : Fin 1024) (h : V (Proc.devRef .tc main_while0b_v24) (ix1 b) = BitVec.ofNat 32 t)
    (hl : V (Proc.devRef .tc main_while0b_c_18) ix0 = 0#32) (hh : V (Proc.devRef .tc main_while0b_c_19) ix0 = 63#32) :
    after while0Ops0_2 V (Proc.devRef .tc main_while0b_v25) (ix1 b) = BitVec.ofNat 32 t := by
  after_reads_at
  simp only [id, h, hl, hh]
  exact clip_word ⟨t, ht⟩

/-- The pointer plus each distance. -/
theorem around (b : Fin 1024) (o : Fin 5) (h : V (Proc.devRef .tc main_while0b_v25) (ix1 b) = BitVec.ofNat 32 t)
    (ho : V (Proc.devRef .tc main_v12_3) (ix1 o) = offset o) :
    after while0Ops0_3 V (Proc.devRef .tc main_while0b_v30) (ix2 b o) = IntOp.addi (BitVec.ofNat 32 t) (offset o) := by
  after_reads_at
  rw [h, ho]

/-- The number of the memory's rows. -/
theorem modulus : after while0Ops0_3 V (Proc.devRef .tc main_while0b_c_20) ix0 = 64#32 := by
  after_reads_at

/-- The remainder of a word by 64 as the reference forms it: the signed remainder, moved up by 64 if its sign is wrong. -/
def wrapped (w : BitVec 32) : BitVec 32 :=
  Scalar.select
    (IntOp.andi
      (IntOp.cmpi .ne (IntOp.cmpi .slt (IntOp.remsi ArithUnit.host w (Scalar.select (IntOp.cmpi .eq 64#32 0#32) 1#32 64#32)) 0#32)
        (IntOp.cmpi .slt (Scalar.select (IntOp.cmpi .eq 64#32 0#32) 1#32 64#32) 0#32))
      (IntOp.cmpi .ne (IntOp.remsi ArithUnit.host w (Scalar.select (IntOp.cmpi .eq 64#32 0#32) 1#32 64#32)) 0#32))
    (IntOp.addi (IntOp.remsi ArithUnit.host w (Scalar.select (IntOp.cmpi .eq 64#32 0#32) 1#32 64#32))
      (Scalar.select (IntOp.cmpi .eq 64#32 0#32) 1#32 64#32))
    (IntOp.remsi ArithUnit.host w (Scalar.select (IntOp.cmpi .eq 64#32 0#32) 1#32 64#32))

/-- The remainder of the pointer plus a distance is `slot`. -/
theorem wrapped_word : ∀ (t : Fin 50) (o : Fin 5),
    wrapped (IntOp.addi (BitVec.ofNat 32 t.val) (offset o)) = BitVec.ofNat 32 (slot t.val o).val := by
  decide +kernel

include ht in
/-- The five rows. -/
theorem slots (b : Fin 1024) (o : Fin 5)
    (h : V (Proc.devRef .tc main_while0b_v30) (ix2 b o) = IntOp.addi (BitVec.ofNat 32 t) (offset o))
    (hm : V (Proc.devRef .tc main_while0b_c_20) ix0 = 64#32) :
    after while0Ops0_4 V (Proc.devRef .tc main_while0b_v31) (ix2 b o) = BitVec.ofNat 32 (slot t o).val := by
  after_reads_at
  simp only [id, h, hm]
  exact wrapped_word ⟨t, ht⟩ o

/-! ## The weights -/

/-- The exponent of a weight as the reference forms it. -/
theorem expo_eq (o : Fin 5) :
    Ideal.div (-((FloatOps.sitofp (F := Ideal) FTy.f32 (BitVec.ofNat 32 (slot t o).val) - ((t : ℝ) : EReal))
      * (FloatOps.sitofp (F := Ideal) FTy.f32 (BitVec.ofNat 32 (slot t o).val) - ((t : ℝ) : EReal)))) (Ideal.ofBits FTy.f32 0x41000000#32)
      = ((expo t o : ℝ) : EReal) := by
  rw [sitofp_small _ (by omega), ofBits_eight]
  have e : ∀ x y : ℝ, -(((x : EReal) - (y : EReal)) * ((x : EReal) - (y : EReal))) = ((-((x - y) * (x - y)) : ℝ) : EReal) := by
    intro x y; norm_cast
  rw [e, div_coe _ _ (by norm_num)]
  rfl

section
variable (b : Fin 1024) (hs : ∀ o : Fin 5, V (Proc.devRef .tc main_while0b_v31) (ix2 b o) = BitVec.ofNat 32 (slot t o).val)
  (hp : V (Proc.devRef .tc main_v12_13) (ix1 b) = ((t : ℝ) : EReal))
include ht hs hp

/-- Whether the exponential of a weight underflows. -/
theorem below (o : Fin 5) : after while0Ops0_5 V (Proc.devRef .tc main_while0b_v45) (ix2 b o)
    = BitVec.ofBool (decide (expo t o < -104)) := by
  after_reads_at
  simp only [hs, hp]
  simp only [expo_eq]
  rw [ofBits_bot, fold_max t (by omega), ofBits_neg_104, sub_zero]
  simp only [EReal.coe_lt_coe_iff]

/-- The exponential of the exponent; the largest exponent, subtracted first, is zero. -/
theorem power (o : Fin 5) : after while0Ops0_5 V (Proc.devRef .tc main_while0b_v46) (ix2 b o) = Ideal.exp (expo t o : EReal) := by
  after_reads_at
  simp only [hs, hp]
  simp only [expo_eq]
  rw [ofBits_bot, fold_max t (by omega), sub_zero]
end

/-- What an underflowing exponential is. -/
theorem zero24 : after while0Ops0_5 V (Proc.devRef .tc main_while0b_cst_24) ix0 = (0 : EReal) := by
  after_reads_at

/-- The weights. -/
theorem weights (b : Fin 1024) (o : Fin 5)
    (h45 : V (Proc.devRef .tc main_while0b_v45) (ix2 b o) = BitVec.ofBool (decide (expo t o < -104)))
    (h46 : V (Proc.devRef .tc main_while0b_v46) (ix2 b o) = Ideal.exp (expo t o : EReal))
    (h0 : V (Proc.devRef .tc main_while0b_cst_24) ix0 = (0 : EReal)) :
    after while0Ops0_6 V (Proc.devRef .tc main_while0b_v47) (ix2 b o) = weight t o := by
  after_reads_at
  rw [h45, h46]
  simp only [id, h0]
  unfold weight
  by_cases h : expo t o < -104 <;> simp [h, Scalar.select]

/-- The weights divided by their sum. -/
theorem shares (b : Fin 1024) (o : Fin 5) (h : ∀ o : Fin 5, V (Proc.devRef .tc main_while0b_v47) (ix2 b o) = weight t o) :
    after while0Ops0_7 V (Proc.devRef .tc main_while0b_v51) (ix2 b o) = Ideal.div (weight t o) (∑ o' : Fin 5, weight t o') := by
  after_reads_at
  simp only [h]

/-- The rows, with one axis more. -/
theorem slots1 (b : Fin 1024) (o : Fin 5)
    (hs : V (Proc.devRef .tc main_while0b_v31) (ix2 b o) = BitVec.ofNat 32 (slot t o).val) :
    after while0Ops0_7 V (Proc.devRef .tc main_while0b_v52) (ix3 b o 0) = BitVec.ofNat 32 (slot t o).val := by
  after_reads_at
  exact hs

end Cert.Proof.RefStretch

end
-- ==== Proof.RefUpdate.lean ====
/- The second half of one trip of the reference's loop, read at an index: the rows gathered, the new state, the memory with
   the new state put in its row, the pointer and the counter. -/
module

public import proofs.«01_k».proof.Proof.RefStretch
public import Idealize.ShloMosaic.Lib.StableHlo.ReadAt
public import Idealize.ShloMosaic.Lib.StableHlo.RunRead

@[expose] public section

noncomputable section

namespace Cert.Proof.RefUpdate

open Cert.ReferenceIdeal Cert.ReferenceIdeal.Gen Cert.ReferenceIdeal.Value Cert.Proof.Spec Cert.Proof.Weights Cert.Proof.RefStretch
open Idealize.ShloMosaic Idealize.ShloMosaic.TcCoe Idealize.ShloMosaic.StableHlo
open scoped BigOperators

variable (V : Valuation τ sig (Elt Ideal)) (t : ℕ) (ht : t < 50)

/-! ## The rows that the step reads -/

/-- A row's number is not negative, so it is not moved. -/
theorem row_word : ∀ s : Fin 64, Scalar.select (IntOp.cmpi .slt (BitVec.ofNat 32 s.val) 0#32) (IntOp.addi (BitVec.ofNat 32 s.val) 64#32)
    (BitVec.ofNat 32 s.val) = BitVec.ofNat 32 s.val := by decide +kernel
/-- A row's number is within the memory. -/
theorem row_in : ∀ s : Fin 64, IntOp.andi (IntOp.cmpi .sge (BitVec.ofNat 32 s.val) 0#32) (IntOp.cmpi .sle (BitVec.ofNat 32 s.val) 63#32) = 1#1 := by
  decide +kernel

/-- The rows gathered. -/
theorem rows (b : Fin 1024) (o : Fin 5) (d : Fin 256)
    (hs : V (Proc.devRef .tc main_while0b_v52) (ix3 b o 0) = BitVec.ofNat 32 (slot t o).val) :
    after while0Ops0_8 V (Proc.devRef .tc main_while0b_v53) (ix3 b o d)
      = V (Proc.devRef .tc main_v12_12) (ix3 b (slot t o) d) := by
  have hs' : ∀ x : Fin 1, V (Proc.devRef .tc main_while0b_v52) (ix3 b o x) = BitVec.ofNat 32 (slot t o).val := fun x => by
    rw [Subsingleton.elim x 0]; exact hs
  after_reads_at
  simp only [hs', row_word, row_in]
  rw [RefIndex.gather_at _ _ b o d (slot t o)]
  · rfl
  · show Scalar.select (IntOp.cmpi .slt (V (Proc.devRef .tc main_while0b_v52) (ix3 b o 0)) 0#32)
      (IntOp.addi (V (Proc.devRef .tc main_while0b_v52) (ix3 b o 0)) 64#32) (V (Proc.devRef .tc main_while0b_v52) (ix3 b o 0)) = _
    rw [hs]
    exact row_word _

/-! ## The new state -/

section
variable (b : Fin 1024) (P : Params) (e h : Fin 256 → EReal) (a : Fin 5 → EReal) (g : Fin 5 → Fin 256 → EReal)
  (he : ∀ x, V (Proc.devRef .tc main_while0b_v22) (ix2 b x) = e x) (hc : V (Proc.devRef .tc main_v12_4) ix0 = P.cs)
  (ha : ∀ o, V (Proc.devRef .tc main_while0b_v51) (ix2 b o) = a o) (hg : ∀ o x, V (Proc.devRef .tc main_while0b_v53) (ix3 b o x) = g o x)
  (hh : ∀ x, V (Proc.devRef .tc main_v12_11) (ix2 b x) = h x) (hu : ∀ x d, V (Proc.devRef .tc main_v12_5) (ix2 x d) = P.uW x d)
  (hb : ∀ d, V (Proc.devRef .tc main_v12_6) (ix1 d) = P.ub d)
include he hc ha hg hh hu hb

/-- The affine map and `tanh`. -/
theorem activation (d : Fin 256) : after while0Ops0_9 V (Proc.devRef .tc main_while0b_v66) (ix2 b d)
    = act P (fun x => (e x + P.cs * ∑ o : Fin 5, a o * g o x) + h x) d := by
  after_reads_at
  simp only [he, hc, ha, hg, hh, hu, hb]
  rfl

/-- Their mean. -/
theorem average : after while0Ops0_9 V (Proc.devRef .tc main_while0b_v70) (ix2 b 0)
    = mean (act P (fun x => (e x + P.cs * ∑ o : Fin 5, a o * g o x) + h x)) := by
  after_reads_at
  simp only [he, hc, ha, hg, hh, hu, hb]
  rfl
end

/-- The correction of the variance's divisor is zero. -/
theorem zero29 : after while0Ops0_9 V (Proc.devRef .tc main_while0b_c_29) ix0 = 0#32 := by
  after_reads_at

/-- The variance. -/
theorem spread (b : Fin 1024) (u : Fin 256 → EReal) (h : ∀ d, V (Proc.devRef .tc main_while0b_v66) (ix2 b d) = u d)
    (h0 : V (Proc.devRef .tc main_while0b_c_29) ix0 = 0#32) :
    after while0Ops0_10 V (Proc.devRef .tc main_while0b_v71) (ix2 b 0) = variance u := by
  after_reads_at
  simp only [h, h0]
  have e : Ideal.ofBits FTy.f32 1132462080#32 - FloatOps.sitofp (F := Ideal) FTy.f32 0#32 = Ideal.ofBits FTy.f32 1132462080#32 := by
    show _ - (((0#32).toInt : ℝ) : EReal) = _
    simp
  rw [e, if_pos (by rw [Weights.ofBits_256]; norm_num)]
  rfl

/-- The normalised, scaled and offset state. -/
theorem normalised (b : Fin 1024) (d : Fin 256) (P : Params) (u : Fin 256 → EReal)
    (h : ∀ d, V (Proc.devRef .tc main_while0b_v66) (ix2 b d) = u d)
    (hm : V (Proc.devRef .tc main_while0b_v70) (ix2 b 0) = mean u) (hv : V (Proc.devRef .tc main_while0b_v71) (ix2 b 0) = variance u)
    (hg : V (Proc.devRef .tc main_v12_7) (ix1 d) = P.ng d) (hb : V (Proc.devRef .tc main_v12_8) (ix1 d) = P.nb d) :
    after while0Ops0_11 V (Proc.devRef .tc main_while0b_v84) (ix2 b d) = norm P u d := by
  after_reads_at
  rw [h, hm, hv, hg, hb]
  rfl

/-! ## The memory and the pointer -/

/-- A sequence's number is not negative, so it is not moved. -/
theorem seq_word : ∀ b : Fin 1024, Scalar.select (IntOp.cmpi .slt (BitVec.ofNat 32 b.val) 0#32) (IntOp.addi (BitVec.ofNat 32 b.val) 1024#32)
    (BitVec.ofNat 32 b.val) = BitVec.ofNat 32 b.val := by decide +kernel

/-- Sequence `b`'s row of the memory is written in sequence `b`. -/
theorem place0 (b : Fin 1024) (h : V (Proc.devRef .tc main_v12_9) (ix1 b) = BitVec.ofNat 32 b.val) :
    after while0Ops0_11 V (Proc.devRef .tc main_while0b_v98) (ix2 b 0) = BitVec.ofNat 32 b.val := by
  after_reads_at
  rw [h]
  exact seq_word b

include ht in
/-- It is row `t`. -/
theorem place1 (b : Fin 1024) (hp : V (Proc.devRef .tc main_v12_13) (ix1 b) = ((t : ℝ) : EReal)) :
    after while0Ops0_11 V (Proc.devRef .tc main_while0b_v98) (ix2 b 1) = BitVec.ofNat 32 t := by
  after_reads_at
  rw [hp, fptosi_small t (by omega)]
  exact row_word ⟨t, by omega⟩

/-- The memory with the new states put in. -/
theorem scattered : after while0Ops0_11 V (Proc.devRef .tc main_while0b_v99)
    = Host.scatter RefIndex.sd (fun _ u => u) (V (Proc.devRef .tc main_v12_12)) (after while0Ops0_11 V (Proc.devRef .tc main_while0b_v98))
      (after while0Ops0_11 V (Proc.devRef .tc main_while0b_v84)) := by
  after_reads_simp
  rfl

/-- The pointer plus one. -/
theorem pointer1 (b : Fin 1024) (hp : V (Proc.devRef .tc main_v12_13) (ix1 b) = ((t : ℝ) : EReal)) :
    after while0Ops0_11 V (Proc.devRef .tc main_while0b_v101) (ix1 b) = (((t + 1 : ℕ) : ℝ) : EReal) := by
  after_reads_at
  rw [hp]
  norm_cast

/-- The number of the memory's rows. -/
theorem modulus1 : after while0Ops0_11 V (Proc.devRef .tc main_while0b_cst_36) ix0 = ((64 : ℝ) : EReal) := by
  after_reads_at
  exact ofBits_64

include ht in
/-- The remainder, which 50 steps never reach. -/
theorem pointer (b : Fin 1024) (h : V (Proc.devRef .tc main_while0b_v101) (ix1 b) = (((t + 1 : ℕ) : ℝ) : EReal))
    (hm : V (Proc.devRef .tc main_while0b_cst_36) ix0 = ((64 : ℝ) : EReal)) :
    after while0Ops0_12 V (Proc.devRef .tc main_while0b_v102) (ix1 b) = (((t + 1 : ℕ) : ℝ) : EReal) := by
  after_reads_at
  simp only [id, h, hm]
  have hr : Ideal.remf (((t + 1 : ℕ) : ℝ) : EReal) ((64 : ℝ) : EReal) = (((t + 1 : ℕ) : ℝ) : EReal) := by
    rw [Ideal.remf_coe, if_neg (by norm_num)]
    have h1 : ⌊((t + 1 : ℕ) : ℝ) / 64⌋ = 0 := by
      have : ((t + 1 : ℕ) : ℝ) < 64 := by exact_mod_cast (by omega : t + 1 < 64)
      rw [Int.floor_eq_zero_iff, Set.mem_Ico]
      exact ⟨by positivity, by linarith⟩
    unfold Ideal.truncInt
    rw [if_pos (by positivity), h1]
    simp
  have h2 : ¬ (((t + 1 : ℕ) : ℝ) : EReal) < 0 := not_lt.mpr (by exact_mod_cast (by positivity : (0 : ℝ) ≤ ((t + 1 : ℕ) : ℝ)))
  have h3 : ¬ ((64 : ℝ) : EReal) < 0 := not_lt.mpr (by exact_mod_cast (by norm_num : (0 : ℝ) ≤ 64))
  rw [hr]
  simp only [h2, h3, decide_false]
  generalize decide ((((t + 1 : ℕ) : ℝ) : EReal) ≠ 0) = c
  cases c <;> rfl

/-- The trip counter. -/
theorem counter (hc : V (Proc.devRef .tc main_v12_10) ix0 = BitVec.ofNat 32 t) :
    after while0Ops0_13 V (Proc.devRef .tc main_v12_10) ix0 = BitVec.ofNat 32 (t + 1) := by
  after_reads_at
  show IntOp.addi (V (Proc.devRef .tc main_v12_10) ix0) 1#32 = _
  rw [hc]
  exact (BitVec.ofNat_add t 1).symm

/-- The state is carried on. -/
theorem moved11 (b : Fin 1024) (d : Fin 256) : after while0Ops0_13 V (Proc.devRef .tc main_v12_11) (ix2 b d)
    = V (Proc.devRef .tc main_while0b_v84) (ix2 b d) := by
  after_reads_at
  rfl
/-- The memory is carried on. -/
theorem moved12 (b : Fin 1024) (j : Fin 64) (d : Fin 256) : after while0Ops0_13 V (Proc.devRef .tc main_v12_12) (ix3 b j d)
    = V (Proc.devRef .tc main_while0b_v99) (ix3 b j d) := by
  after_reads_at
  rfl
/-- The pointer is carried on. -/
theorem moved13 (b : Fin 1024) : after while0Ops0_13 V (Proc.devRef .tc main_v12_13) (ix1 b)
    = V (Proc.devRef .tc main_while0b_v102) (ix1 b) := by
  after_reads_at
  rfl

end Cert.Proof.RefUpdate

end
-- ==== Proof.RefTrip.lean ====
/- One trip of the reference's loop. Before trip `t` the loop's arrays hold the state after the inputs so far (zero before the
   first), those states in the first `t` rows of the memory and zeros in the others, and the number `t` as the pointer; so
   they do after the trip, for `t + 1`. -/
module

public import proofs.«01_k».proof.Proof.RefFrame
public import proofs.«01_k».proof.Proof.RefUpdate

@[expose] public section

noncomputable section

namespace Cert.Proof.RefTrip

open Cert.ReferenceIdeal Cert.ReferenceIdeal.Gen Cert.ReferenceIdeal.Value
open Cert.Proof.Spec Cert.Proof.Weights Cert.Proof.RefStretch Cert.Proof.RefUpdate
open Idealize.ShloMosaic Idealize.ShloMosaic.TcCoe Idealize.ShloMosaic.StableHlo
open scoped BigOperators

/-- What the loop's arrays hold before trip `t`, for the parameters `P` and the sequences `xs`. -/
structure Before (V : Valuation τ sig (Elt Ideal)) (P : Params) (xs : Fin 1024 → ℕ → EReal) (t : ℕ) : Prop where
  inp : ∀ (s : Fin 50) (b : Fin 1024), V (Proc.devRef .tc main_v12_0) (ix3 s b 0) = xs b s.val
  eW : ∀ d : Fin 256, V (Proc.devRef .tc main_v12_1) (ix2 0 d) = P.eW d
  eb : ∀ d : Fin 256, V (Proc.devRef .tc main_v12_2) (ix1 d) = P.eb d
  off : ∀ o : Fin 5, V (Proc.devRef .tc main_v12_3) (ix1 o) = offset o
  cs : V (Proc.devRef .tc main_v12_4) ix0 = P.cs
  uW : ∀ k d : Fin 256, V (Proc.devRef .tc main_v12_5) (ix2 k d) = P.uW k d
  ub : ∀ d : Fin 256, V (Proc.devRef .tc main_v12_6) (ix1 d) = P.ub d
  ng : ∀ d : Fin 256, V (Proc.devRef .tc main_v12_7) (ix1 d) = P.ng d
  nb : ∀ d : Fin 256, V (Proc.devRef .tc main_v12_8) (ix1 d) = P.nb d
  seq : ∀ b : Fin 1024, V (Proc.devRef .tc main_v12_9) (ix1 b) = BitVec.ofNat 32 b.val
  ctr : V (Proc.devRef .tc main_v12_10) ix0 = BitVec.ofNat 32 t
  hid : ∀ (b : Fin 1024) (d : Fin 256), V (Proc.devRef .tc main_v12_11) (ix2 b d) = last (fun s => state P (xs b) s d) t
  mem : ∀ (b : Fin 1024) (j : Fin 64) (d : Fin 256),
    V (Proc.devRef .tc main_v12_12) (ix3 b j d) = memory (fun s => state P (xs b) s d) t j.val
  ptr : ∀ b : Fin 1024, V (Proc.devRef .tc main_v12_13) (ix1 b) = ((t : ℝ) : EReal)

/-! ## The arrays between the stretches -/

variable (V : Valuation τ sig (Elt Ideal))

/-- After stretch 0. -/
def S0 : Valuation τ sig (Elt Ideal) := after condOps V
/-- After stretch 1. -/
def S1 : Valuation τ sig (Elt Ideal) := after while0Ops0 (S0 V)
/-- After stretch 2. -/
def S2 : Valuation τ sig (Elt Ideal) := after while0Ops0_1 (S1 V)
/-- After stretch 3. -/
def S3 : Valuation τ sig (Elt Ideal) := after while0Ops0_2 (S2 V)
/-- After stretch 4. -/
def S4 : Valuation τ sig (Elt Ideal) := after while0Ops0_3 (S3 V)
/-- After stretch 5. -/
def S5 : Valuation τ sig (Elt Ideal) := after while0Ops0_4 (S4 V)
/-- After stretch 6. -/
def S6 : Valuation τ sig (Elt Ideal) := after while0Ops0_5 (S5 V)
/-- After stretch 7. -/
def S7 : Valuation τ sig (Elt Ideal) := after while0Ops0_6 (S6 V)
/-- After stretch 8. -/
def S8 : Valuation τ sig (Elt Ideal) := after while0Ops0_7 (S7 V)
/-- After stretch 9. -/
def S9 : Valuation τ sig (Elt Ideal) := after while0Ops0_8 (S8 V)
/-- After stretch 10. -/
def S10 : Valuation τ sig (Elt Ideal) := after while0Ops0_9 (S9 V)
/-- After stretch 11. -/
def S11 : Valuation τ sig (Elt Ideal) := after while0Ops0_10 (S10 V)
/-- After stretch 12. -/
def S12 : Valuation τ sig (Elt Ideal) := after while0Ops0_11 (S11 V)
/-- After stretch 13. -/
def S13 : Valuation τ sig (Elt Ideal) := after while0Ops0_12 (S12 V)
/-- After stretch 14. -/
def S14 : Valuation τ sig (Elt Ideal) := after while0Ops0_13 (S13 V)

/-- A trip is the fifteen stretches in order. -/
theorem trip_eq : afterL bodyI (after condOps V) = S14 V := by
  simp only [afterL_cons, afterL_nil]
  rfl

/-! Each stretch leaves alone what it does not write. -/

theorem k0 (b : Ref sig .tc) (h : b ∉ condOps_W) : S0 V (Proc.devRef .tc b) = V (Proc.devRef .tc b) :=
  after_of_writes_sub _ _ condOps_writes h
theorem k1 (b : Ref sig .tc) (h : b ∉ while0Ops0_W) : S1 V (Proc.devRef .tc b) = S0 V (Proc.devRef .tc b) :=
  after_of_writes_sub _ _ while0Ops0_writes h
theorem k2 (b : Ref sig .tc) (h : b ∉ while0Ops0_1_W) : S2 V (Proc.devRef .tc b) = S1 V (Proc.devRef .tc b) :=
  after_of_writes_sub _ _ while0Ops0_1_writes h
theorem k3 (b : Ref sig .tc) (h : b ∉ while0Ops0_2_W) : S3 V (Proc.devRef .tc b) = S2 V (Proc.devRef .tc b) :=
  after_of_writes_sub _ _ while0Ops0_2_writes h
theorem k4 (b : Ref sig .tc) (h : b ∉ while0Ops0_3_W) : S4 V (Proc.devRef .tc b) = S3 V (Proc.devRef .tc b) :=
  after_of_writes_sub _ _ while0Ops0_3_writes h
theorem k5 (b : Ref sig .tc) (h : b ∉ while0Ops0_4_W) : S5 V (Proc.devRef .tc b) = S4 V (Proc.devRef .tc b) :=
  after_of_writes_sub _ _ while0Ops0_4_writes h
theorem k6 (b : Ref sig .tc) (h : b ∉ while0Ops0_5_W) : S6 V (Proc.devRef .tc b) = S5 V (Proc.devRef .tc b) :=
  after_of_writes_sub _ _ while0Ops0_5_writes h
theorem k7 (b : Ref sig .tc) (h : b ∉ while0Ops0_6_W) : S7 V (Proc.devRef .tc b) = S6 V (Proc.devRef .tc b) :=
  after_of_writes_sub _ _ while0Ops0_6_writes h
theorem k8 (b : Ref sig .tc) (h : b ∉ while0Ops0_7_W) : S8 V (Proc.devRef .tc b) = S7 V (Proc.devRef .tc b) :=
  after_of_writes_sub _ _ while0Ops0_7_writes h
theorem k9 (b : Ref sig .tc) (h : b ∉ while0Ops0_8_W) : S9 V (Proc.devRef .tc b) = S8 V (Proc.devRef .tc b) :=
  after_of_writes_sub _ _ while0Ops0_8_writes h
theorem k10 (b : Ref sig .tc) (h : b ∉ while0Ops0_9_W) : S10 V (Proc.devRef .tc b) = S9 V (Proc.devRef .tc b) :=
  after_of_writes_sub _ _ while0Ops0_9_writes h
theorem k11 (b : Ref sig .tc) (h : b ∉ while0Ops0_10_W) : S11 V (Proc.devRef .tc b) = S10 V (Proc.devRef .tc b) :=
  after_of_writes_sub _ _ while0Ops0_10_writes h
theorem k12 (b : Ref sig .tc) (h : b ∉ while0Ops0_11_W) : S12 V (Proc.devRef .tc b) = S11 V (Proc.devRef .tc b) :=
  after_of_writes_sub _ _ while0Ops0_11_writes h
theorem k13 (b : Ref sig .tc) (h : b ∉ while0Ops0_12_W) : S13 V (Proc.devRef .tc b) = S12 V (Proc.devRef .tc b) :=
  after_of_writes_sub _ _ while0Ops0_12_writes h
theorem k14 (b : Ref sig .tc) (h : b ∉ while0Ops0_13_W) : S14 V (Proc.devRef .tc b) = S13 V (Proc.devRef .tc b) :=
  after_of_writes_sub _ _ while0Ops0_13_writes h

/-- The parameters, the inputs and the other constants stay as they are. -/
theorem steady (b : Ref sig .tc) (h : b ∉ RefFrame.loopW) : S14 V (Proc.devRef .tc b) = V (Proc.devRef .tc b) := by
  rw [← trip_eq]
  exact RefFrame.trip_keeps V b h

/-! ## The trip -/

section
variable (P : Params) (xs : Fin 1024 → ℕ → EReal) (t : ℕ) (ht : t < 50) (B : Before V P xs t)
include ht B

/-- The input. -/
theorem e17 : ∀ b : Fin 1024, S1 V (Proc.devRef .tc main_while0b_v17) (ix2 b 0) = xs b t :=
  fun b => (input (S0 V) t ht (by rw [k0 V main_v12_10 (by decide)]; exact B.ctr) b).trans (by rw [k0 V main_v12_0 (by decide)]; exact B.inp ⟨t, ht⟩ b)

/-- Its embedding. -/
theorem e22 : ∀ (b : Fin 1024) (d : Fin 256), S2 V (Proc.devRef .tc main_while0b_v22) (ix2 b d) = embed P (xs b t) d :=
  fun b d => embedding (S1 V) P (xs b t) b d (e17 V P xs t ht B b) (by rw [k1 V main_v12_1 (by decide), k0 V main_v12_1 (by decide)]; exact B.eW d) (by rw [k1 V main_v12_2 (by decide), k0 V main_v12_2 (by decide)]; exact B.eb d)

/-- The pointer as a word. -/
theorem e24 : ∀ b : Fin 1024, S2 V (Proc.devRef .tc main_while0b_v24) (ix1 b) = BitVec.ofNat 32 t :=
  fun b => base (S1 V) t ht b (by rw [k1 V main_v12_13 (by decide), k0 V main_v12_13 (by decide)]; exact B.ptr b)

/-- The pointer clipped to the memory's rows. -/
theorem e25 : ∀ b : Fin 1024, S3 V (Proc.devRef .tc main_while0b_v25) (ix1 b) = BitVec.ofNat 32 t :=
  fun b => clip (S2 V) t ht b (e24 V P xs t ht B b) (low (S1 V)) (high (S1 V))

/-- The pointer plus each distance. -/
theorem e30 : ∀ (b : Fin 1024) (o : Fin 5), S4 V (Proc.devRef .tc main_while0b_v30) (ix2 b o) = IntOp.addi (BitVec.ofNat 32 t) (offset o) :=
  fun b o => around (S3 V) t b o (e25 V P xs t ht B b) (by rw [k3 V main_v12_3 (by decide), k2 V main_v12_3 (by decide), k1 V main_v12_3 (by decide), k0 V main_v12_3 (by decide)]; exact B.off o)

/-- The five rows, wrapped. -/
theorem e31 : ∀ (b : Fin 1024) (o : Fin 5), S5 V (Proc.devRef .tc main_while0b_v31) (ix2 b o) = BitVec.ofNat 32 (slot t o).val :=
  fun b o => slots (S4 V) t ht b o (e30 V P xs t ht B b o) (modulus (S3 V))

/-- Their weights. -/
theorem e47 : ∀ (b : Fin 1024) (o : Fin 5), S7 V (Proc.devRef .tc main_while0b_v47) (ix2 b o) = weight t o :=
  fun b o => weights (S6 V) t b o (below (S5 V) t ht b (e31 V P xs t ht B b) (by rw [k5 V main_v12_13 (by decide), k4 V main_v12_13 (by decide), k3 V main_v12_13 (by decide), k2 V main_v12_13 (by decide), k1 V main_v12_13 (by decide), k0 V main_v12_13 (by decide)]; exact B.ptr b) o) (power (S5 V) t ht b (e31 V P xs t ht B b) (by rw [k5 V main_v12_13 (by decide), k4 V main_v12_13 (by decide), k3 V main_v12_13 (by decide), k2 V main_v12_13 (by decide), k1 V main_v12_13 (by decide), k0 V main_v12_13 (by decide)]; exact B.ptr b) o) (zero24 (S5 V))

/-- The weights divided by their sum. -/
theorem e51 : ∀ (b : Fin 1024) (o : Fin 5), S8 V (Proc.devRef .tc main_while0b_v51) (ix2 b o) = Ideal.div (weight t o) (∑ o' : Fin 5, weight t o') :=
  fun b o => shares (S7 V) t b o (e47 V P xs t ht B b)

/-- The rows, with one axis more. -/
theorem e52 : ∀ (b : Fin 1024) (o : Fin 5), S8 V (Proc.devRef .tc main_while0b_v52) (ix3 b o 0) = BitVec.ofNat 32 (slot t o).val :=
  fun b o => slots1 (S7 V) t b o (by rw [k7 V main_while0b_v31 (by decide), k6 V main_while0b_v31 (by decide)]; exact e31 V P xs t ht B b o)

/-- What the memory holds at the rows. -/
theorem e53 : ∀ (b : Fin 1024) (o : Fin 5) (d : Fin 256),
    S9 V (Proc.devRef .tc main_while0b_v53) (ix3 b o d) = memory (fun s => state P (xs b) s d) t (slot t o).val :=
  fun b o d => (rows (S8 V) t b o d (e52 V P xs t ht B b o)).trans (by rw [k8 V main_v12_12 (by decide), k7 V main_v12_12 (by decide), k6 V main_v12_12 (by decide), k5 V main_v12_12 (by decide), k4 V main_v12_12 (by decide), k3 V main_v12_12 (by decide), k2 V main_v12_12 (by decide), k1 V main_v12_12 (by decide), k0 V main_v12_12 (by decide)]; exact B.mem b (slot t o) d)

omit ht B in
/-- What the step of sequence `b` gathers. -/
def gathered (b : Fin 1024) (d : Fin 256) : EReal :=
  (embed P (xs b t) d + P.cs * read (fun s => state P (xs b) s d) t) + last (fun s => state P (xs b) s d) t

/-- The affine map and `tanh` of what was gathered. -/
theorem e66 : ∀ (b : Fin 1024) (d : Fin 256), S10 V (Proc.devRef .tc main_while0b_v66) (ix2 b d) = act P (gathered P xs t b) d :=
  fun b d => activation (S9 V) b P (embed P (xs b t)) (fun x => last (fun s => state P (xs b) s x) t)
    (fun o => Ideal.div (weight t o) (∑ o' : Fin 5, weight t o')) (fun o x => memory (fun s => state P (xs b) s x) t (slot t o).val)
    (fun x => (by rw [k9 V main_while0b_v22 (by decide), k8 V main_while0b_v22 (by decide), k7 V main_while0b_v22 (by decide), k6 V main_while0b_v22 (by decide), k5 V main_while0b_v22 (by decide), k4 V main_while0b_v22 (by decide), k3 V main_while0b_v22 (by decide)]; exact e22 V P xs t ht B b x)) (by rw [k9 V main_v12_4 (by decide), k8 V main_v12_4 (by decide), k7 V main_v12_4 (by decide), k6 V main_v12_4 (by decide), k5 V main_v12_4 (by decide), k4 V main_v12_4 (by decide), k3 V main_v12_4 (by decide), k2 V main_v12_4 (by decide), k1 V main_v12_4 (by decide), k0 V main_v12_4 (by decide)]; exact B.cs) (fun o => (by rw [k9 V main_while0b_v51 (by decide)]; exact e51 V P xs t ht B b o)) (e53 V P xs t ht B b)
    (fun x => (by rw [k9 V main_v12_11 (by decide), k8 V main_v12_11 (by decide), k7 V main_v12_11 (by decide), k6 V main_v12_11 (by decide), k5 V main_v12_11 (by decide), k4 V main_v12_11 (by decide), k3 V main_v12_11 (by decide), k2 V main_v12_11 (by decide), k1 V main_v12_11 (by decide), k0 V main_v12_11 (by decide)]; exact B.hid b x)) (fun x d => (by rw [k9 V main_v12_5 (by decide), k8 V main_v12_5 (by decide), k7 V main_v12_5 (by decide), k6 V main_v12_5 (by decide), k5 V main_v12_5 (by decide), k4 V main_v12_5 (by decide), k3 V main_v12_5 (by decide), k2 V main_v12_5 (by decide), k1 V main_v12_5 (by decide), k0 V main_v12_5 (by decide)]; exact B.uW x d)) (fun d => (by rw [k9 V main_v12_6 (by decide), k8 V main_v12_6 (by decide), k7 V main_v12_6 (by decide), k6 V main_v12_6 (by decide), k5 V main_v12_6 (by decide), k4 V main_v12_6 (by decide), k3 V main_v12_6 (by decide), k2 V main_v12_6 (by decide), k1 V main_v12_6 (by decide), k0 V main_v12_6 (by decide)]; exact B.ub d)) d

/-- Their mean. -/
theorem e70 : ∀ b : Fin 1024, S10 V (Proc.devRef .tc main_while0b_v70) (ix2 b 0) = mean (act P (gathered P xs t b)) :=
  fun b => average (S9 V) b P (embed P (xs b t)) (fun x => last (fun s => state P (xs b) s x) t)
    (fun o => Ideal.div (weight t o) (∑ o' : Fin 5, weight t o')) (fun o x => memory (fun s => state P (xs b) s x) t (slot t o).val)
    (fun x => (by rw [k9 V main_while0b_v22 (by decide), k8 V main_while0b_v22 (by decide), k7 V main_while0b_v22 (by decide), k6 V main_while0b_v22 (by decide), k5 V main_while0b_v22 (by decide), k4 V main_while0b_v22 (by decide), k3 V main_while0b_v22 (by decide)]; exact e22 V P xs t ht B b x)) (by rw [k9 V main_v12_4 (by decide), k8 V main_v12_4 (by decide), k7 V main_v12_4 (by decide), k6 V main_v12_4 (by decide), k5 V main_v12_4 (by decide), k4 V main_v12_4 (by decide), k3 V main_v12_4 (by decide), k2 V main_v12_4 (by decide), k1 V main_v12_4 (by decide), k0 V main_v12_4 (by decide)]; exact B.cs) (fun o => (by rw [k9 V main_while0b_v51 (by decide)]; exact e51 V P xs t ht B b o)) (e53 V P xs t ht B b)
    (fun x => (by rw [k9 V main_v12_11 (by decide), k8 V main_v12_11 (by decide), k7 V main_v12_11 (by decide), k6 V main_v12_11 (by decide), k5 V main_v12_11 (by decide), k4 V main_v12_11 (by decide), k3 V main_v12_11 (by decide), k2 V main_v12_11 (by decide), k1 V main_v12_11 (by decide), k0 V main_v12_11 (by decide)]; exact B.hid b x)) (fun x d => (by rw [k9 V main_v12_5 (by decide), k8 V main_v12_5 (by decide), k7 V main_v12_5 (by decide), k6 V main_v12_5 (by decide), k5 V main_v12_5 (by decide), k4 V main_v12_5 (by decide), k3 V main_v12_5 (by decide), k2 V main_v12_5 (by decide), k1 V main_v12_5 (by decide), k0 V main_v12_5 (by decide)]; exact B.uW x d)) (fun d => (by rw [k9 V main_v12_6 (by decide), k8 V main_v12_6 (by decide), k7 V main_v12_6 (by decide), k6 V main_v12_6 (by decide), k5 V main_v12_6 (by decide), k4 V main_v12_6 (by decide), k3 V main_v12_6 (by decide), k2 V main_v12_6 (by decide), k1 V main_v12_6 (by decide), k0 V main_v12_6 (by decide)]; exact B.ub d))

/-- Their variance. -/
theorem e71 : ∀ b : Fin 1024, S11 V (Proc.devRef .tc main_while0b_v71) (ix2 b 0) = variance (act P (gathered P xs t b)) :=
  fun b => spread (S10 V) b _ (e66 V P xs t ht B b) (zero29 (S9 V))

variable (y : EReal) (hcs : P.cs = Ideal.logistic y)
include hcs

/-- The new state. -/
theorem e84 : ∀ (b : Fin 1024) (d : Fin 256), S12 V (Proc.devRef .tc main_while0b_v84) (ix2 b d) = state P (xs b) t d :=
  fun b d => (normalised (S11 V) b d P (act P (gathered P xs t b)) (fun d => (by rw [k11 V main_while0b_v66 (by decide)]; exact e66 V P xs t ht B b d)) (by rw [k11 V main_while0b_v70 (by decide)]; exact e70 V P xs t ht B b) (e71 V P xs t ht B b)
    (by rw [k11 V main_v12_7 (by decide), k10 V main_v12_7 (by decide), k9 V main_v12_7 (by decide), k8 V main_v12_7 (by decide), k7 V main_v12_7 (by decide), k6 V main_v12_7 (by decide), k5 V main_v12_7 (by decide), k4 V main_v12_7 (by decide), k3 V main_v12_7 (by decide), k2 V main_v12_7 (by decide), k1 V main_v12_7 (by decide), k0 V main_v12_7 (by decide)]; exact B.ng d) (by rw [k11 V main_v12_8 (by decide), k10 V main_v12_8 (by decide), k9 V main_v12_8 (by decide), k8 V main_v12_8 (by decide), k7 V main_v12_8 (by decide), k6 V main_v12_8 (by decide), k5 V main_v12_8 (by decide), k4 V main_v12_8 (by decide), k3 V main_v12_8 (by decide), k2 V main_v12_8 (by decide), k1 V main_v12_8 (by decide), k0 V main_v12_8 (by decide)]; exact B.nb d)).trans
    (congrFun (gathered_eq P (xs b) y hcs t ht) d)

/-- The memory with the new state in row `t`. -/
theorem e99 : ∀ (b : Fin 1024) (j : Fin 64) (d : Fin 256),
    S12 V (Proc.devRef .tc main_while0b_v99) (ix3 b j d) = memory (fun s => state P (xs b) s d) (t + 1) j.val := by
  intro b j d
  refine (congrFun (scattered (S11 V)) (ix3 b j d)).trans ?_
  rw [RefIndex.scatter_at _ _ _ (⟨t, by omega⟩ : Fin 64) (fun b => place0 (S11 V) b (by rw [k11 V main_v12_9 (by decide), k10 V main_v12_9 (by decide), k9 V main_v12_9 (by decide), k8 V main_v12_9 (by decide), k7 V main_v12_9 (by decide), k6 V main_v12_9 (by decide), k5 V main_v12_9 (by decide), k4 V main_v12_9 (by decide), k3 V main_v12_9 (by decide), k2 V main_v12_9 (by decide), k1 V main_v12_9 (by decide), k0 V main_v12_9 (by decide)]; exact B.seq b)) (fun b => place1 (S11 V) t ht b (by rw [k11 V main_v12_13 (by decide), k10 V main_v12_13 (by decide), k9 V main_v12_13 (by decide), k8 V main_v12_13 (by decide), k7 V main_v12_13 (by decide), k6 V main_v12_13 (by decide), k5 V main_v12_13 (by decide), k4 V main_v12_13 (by decide), k3 V main_v12_13 (by decide), k2 V main_v12_13 (by decide), k1 V main_v12_13 (by decide), k0 V main_v12_13 (by decide)]; exact B.ptr b))]
  have h84 := e84 V P xs t ht B y hcs b d
  have hm : S11 V (Proc.devRef .tc main_v12_12) (ix3 b j d) = memory (fun s => state P (xs b) s d) t j.val := (by rw [k11 V main_v12_12 (by decide), k10 V main_v12_12 (by decide), k9 V main_v12_12 (by decide), k8 V main_v12_12 (by decide), k7 V main_v12_12 (by decide), k6 V main_v12_12 (by decide), k5 V main_v12_12 (by decide), k4 V main_v12_12 (by decide), k3 V main_v12_12 (by decide), k2 V main_v12_12 (by decide), k1 V main_v12_12 (by decide), k0 V main_v12_12 (by decide)]; exact B.mem b j d)
  unfold memory at hm ⊢
  by_cases hj : j = (⟨t, by omega⟩ : Fin 64)
  · subst hj
    rw [if_pos rfl, if_pos (Nat.lt_succ_self t)]
    exact h84
  · have hj' : j.val ≠ t := fun h => hj (Fin.ext h)
    rw [if_neg hj, hm]
    by_cases hl : j.val < t
    · rw [if_pos hl, if_pos (by omega)]
    · rw [if_neg hl, if_neg (by omega)]

/-- The trip takes what held before trip `t` to what holds before trip `t + 1`. -/
theorem step : Before (afterL bodyI (after condOps V)) P xs (t + 1) := by
  rw [trip_eq]
  refine ⟨fun s b => ?_, fun d => ?_, fun d => ?_, fun o => ?_, ?_, fun k d => ?_, fun d => ?_, fun d => ?_, fun d => ?_, fun b => ?_, ?_,
    fun b d => ?_, fun b j d => ?_, fun b => ?_⟩
  · rw [steady V main_v12_0 (by decide)]; exact B.inp s b
  · rw [steady V main_v12_1 (by decide)]; exact B.eW d
  · rw [steady V main_v12_2 (by decide)]; exact B.eb d
  · rw [steady V main_v12_3 (by decide)]; exact B.off o
  · rw [steady V main_v12_4 (by decide)]; exact B.cs
  · rw [steady V main_v12_5 (by decide)]; exact B.uW k d
  · rw [steady V main_v12_6 (by decide)]; exact B.ub d
  · rw [steady V main_v12_7 (by decide)]; exact B.ng d
  · rw [steady V main_v12_8 (by decide)]; exact B.nb d
  · rw [steady V main_v12_9 (by decide)]; exact B.seq b
  · exact counter (S13 V) t (by rw [k13 V main_v12_10 (by decide), k12 V main_v12_10 (by decide), k11 V main_v12_10 (by decide), k10 V main_v12_10 (by decide), k9 V main_v12_10 (by decide), k8 V main_v12_10 (by decide), k7 V main_v12_10 (by decide), k6 V main_v12_10 (by decide), k5 V main_v12_10 (by decide), k4 V main_v12_10 (by decide), k3 V main_v12_10 (by decide), k2 V main_v12_10 (by decide), k1 V main_v12_10 (by decide), k0 V main_v12_10 (by decide)]; exact B.ctr)
  · exact (moved11 (S13 V) b d).trans (by rw [k13 V main_while0b_v84 (by decide)]; exact e84 V P xs t ht B y hcs b d)
  · exact (moved12 (S13 V) b j d).trans (by rw [k13 V main_while0b_v99 (by decide)]; exact e99 V P xs t ht B y hcs b j d)
  · exact (moved13 (S13 V) b).trans (pointer (S12 V) t ht b (pointer1 (S11 V) t b (by rw [k11 V main_v12_13 (by decide), k10 V main_v12_13 (by decide), k9 V main_v12_13 (by decide), k8 V main_v12_13 (by decide), k7 V main_v12_13 (by decide), k6 V main_v12_13 (by decide), k5 V main_v12_13 (by decide), k4 V main_v12_13 (by decide), k3 V main_v12_13 (by decide), k2 V main_v12_13 (by decide), k1 V main_v12_13 (by decide), k0 V main_v12_13 (by decide)]; exact B.ptr b)) (modulus1 (S11 V)))

end

end Cert.Proof.RefTrip

end
-- ==== Proof.RefRun.lean ====
/- The reference's result array as a function of the arguments: the lines before the loop make what holds before the first
   trip, 50 trips take it to what holds after the last, and the last affine map reads the state off. -/
module

public import proofs.«01_k».proof.Proof.RefTrip
public import Idealize.ShloMosaic.Lib.Pointwise

@[expose] public section

noncomputable section

namespace Cert.Proof.RefRun

open Cert.ReferenceIdeal Cert.ReferenceIdeal.Gen Cert.ReferenceIdeal.Value
open Cert.Proof.Spec Cert.Proof.Weights Cert.Proof.RefStretch Cert.Proof.RefTrip
open Idealize.ShloMosaic Idealize.ShloMosaic.TcCoe Idealize.ShloMosaic.StableHlo
open scoped BigOperators

/-! ## The lines before the loop -/

section
variable (V : Valuation τ sig (Elt Ideal))

/-- The sequences, the step first. -/
theorem inp0 (s : Fin 50) (b : Fin 1024) : after hostOps0 V (Proc.devRef .tc main_v12_0) (ix3 s b 0)
    = V (Proc.devRef .tc main_arg0) (ix3 b s 0) := by
  after_reads_at
  dsimp only [id]
  pointwise
/-- The embedding's scale. -/
theorem eW0 (d : Fin 256) : after hostOps0 V (Proc.devRef .tc main_v12_1) (ix2 0 d) = V (Proc.devRef .tc main_arg1) (ix2 0 d) := by
  after_reads_at
  rfl
/-- Its offset. -/
theorem eb0 (d : Fin 256) : after hostOps0 V (Proc.devRef .tc main_v12_2) (ix1 d) = V (Proc.devRef .tc main_arg2) (ix1 d) := by
  after_reads_at
  rfl
/-- The five distances. -/
theorem off0 (o : Fin 5) : after hostOps0 V (Proc.devRef .tc main_v12_3) (ix1 o) = offset o := by
  after_reads_at
  rfl
/-- The strength of reading. -/
theorem cs0 : after hostOps0 V (Proc.devRef .tc main_v12_4) ix0 = Ideal.logistic (V (Proc.devRef .tc main_arg9) ix0) := by
  after_reads_at
  dsimp only [id]
  pointwise
  rfl
/-- The affine map. -/
theorem uW0 (k d : Fin 256) : after hostOps0 V (Proc.devRef .tc main_v12_5) (ix2 k d) = V (Proc.devRef .tc main_arg3) (ix2 k d) := by
  after_reads_at
  rfl
/-- Its offset. -/
theorem ub0 (d : Fin 256) : after hostOps0 V (Proc.devRef .tc main_v12_6) (ix1 d) = V (Proc.devRef .tc main_arg4) (ix1 d) := by
  after_reads_at
  rfl
/-- The normalisation's scale. -/
theorem ng0 (d : Fin 256) : after hostOps0 V (Proc.devRef .tc main_v12_7) (ix1 d) = V (Proc.devRef .tc main_arg5) (ix1 d) := by
  after_reads_at
  rfl
/-- Its offset. -/
theorem nb0 (d : Fin 256) : after hostOps0 V (Proc.devRef .tc main_v12_8) (ix1 d) = V (Proc.devRef .tc main_arg6) (ix1 d) := by
  after_reads_at
  rfl
/-- The sequences' numbers. -/
theorem seq0 (b : Fin 1024) : after hostOps0 V (Proc.devRef .tc main_v12_9) (ix1 b) = BitVec.ofNat 32 b.val := by
  after_reads_at
  rfl
/-- The trip counter. -/
theorem ctr0 : after hostOps0 V (Proc.devRef .tc main_v12_10) ix0 = 0#32 := by
  after_reads_at
  rfl
/-- No state yet. -/
theorem hid0 (b : Fin 1024) (d : Fin 256) : after hostOps0 V (Proc.devRef .tc main_v12_11) (ix2 b d) = (0 : EReal) := by
  after_reads_at
  dsimp only [id]
  pointwise
/-- An empty memory. -/
theorem mem0 (b : Fin 1024) (j : Fin 64) (d : Fin 256) : after hostOps0 V (Proc.devRef .tc main_v12_12) (ix3 b j d) = (0 : EReal) := by
  after_reads_at
  dsimp only [id]
  pointwise
/-- The pointer at row zero. -/
theorem ptr0 (b : Fin 1024) : after hostOps0 V (Proc.devRef .tc main_v12_13) (ix1 b) = (0 : EReal) := by
  after_reads_at
  dsimp only [id]
  pointwise

/-- The last affine map. -/
theorem affine (b : Fin 1024) (q : Fin 10) (h : Fin 256 → EReal) (oW : Fin 256 → EReal) (ob : EReal)
    (hh : ∀ k, V (Proc.devRef .tc main_v12_11) (ix2 b k) = h k) (hW : ∀ k, V (Proc.devRef .tc main_arg7) (ix2 k q) = oW k)
    (hb : V (Proc.devRef .tc main_arg8) (ix1 q) = ob) :
    after hostOps0_1 V (Proc.devRef .tc main_v16) (ix2 b q) = logit oW ob h := by
  after_reads_at
  simp only [hh, hW, hb]
  rfl
end

/-! ## The loop -/

variable (m : (ℓ : Loc nD τ sig) → Buf (Elt Ideal) ℓ) (c : Dev nD)

/-- The parameters in the reference's argument arrays. -/
def P : Params := argParams (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg9))

/-- The sequences in its first argument array. -/
def xs (b : Fin 1024) : ℕ → EReal := argSeq (m ((c.tc : Thread nD τ).loc main_arg0)) b

/-- An input of a sequence. -/
theorem xs_eq (s : Fin 50) (b : Fin 1024) : xs m c b s.val = m ((c.tc : Thread nD τ).loc main_arg0) (ix3 b s 0) :=
  dif_pos s.isLt

/-- What holds before the first trip. -/
theorem before_zero : Before (atK m 0 c) (P m c) (xs m c) 0 := by
  rw [RefFrame.atK_zero]
  exact ⟨fun s b => (inp0 _ s b).trans (xs_eq m c s b).symm, fun d => eW0 _ d, fun d => eb0 _ d, off0 _, cs0 _, fun k d => uW0 _ k d,
    fun d => ub0 _ d, fun d => ng0 _ d, fun d => nb0 _ d, seq0 _, ctr0 _, fun b d => hid0 _ b d,
    fun b j d => (mem0 _ b j d).trans (if_neg (Nat.not_lt_zero _)).symm, fun b => (ptr0 _ b).trans (by norm_num)⟩

/-- What holds before each trip. -/
theorem before : ∀ t, t ≤ 50 → Before (atK m t c) (P m c) (xs m c) t
  | 0, _ => before_zero m c
  | t + 1, h => step (atK m t c) (P m c) (xs m c) t (by omega) (before t (by omega)) _ rfl

/-! ## The result -/

/-- The reference's result array. -/
def out : Vec Ideal S1024x10 .f32 := fun j =>
  result (m ((c.tc : Thread nD τ).loc main_arg0)) (P m c) (m ((c.tc : Thread nD τ).loc main_arg7))
    (m ((c.tc : Thread nD τ).loc main_arg8)) (j 0) (j 1)

/-- An argument array is, after the last trip, as launched. -/
theorem arg (b : Ref sig .tc) (h0 : b ∉ hostOps0_W) (h : b ∉ RefFrame.loopW) (hc : b ∉ condOps_W) :
    after condOps (atK m 50 c) (Proc.devRef .tc b) = m ((c.tc : Thread nD τ).loc b) := by
  rw [after_of_writes_sub _ _ condOps_writes hc, RefFrame.atK_keeps m c b h 50, RefFrame.atK_zero,
    after_of_writes_sub _ _ hostOps0_writes h0]

/-- What the reference leaves in its result array. -/
theorem final_eq : finalContents condOps preI bodyI postI 50 m c (Proc.devRef .tc main_v16) = out m c := by
  have hbq : ∀ (b : Fin 1024) (q : Fin 10),
      finalContents condOps preI bodyI postI 50 m c (Proc.devRef .tc main_v16) (ix2 b q) = out m c (ix2 b q) := by
    intro b q
    show afterL postI (after condOps (atK m 50 c)) (Proc.devRef .tc main_v16) (ix2 b q) = _
    simp only [afterL_cons, afterL_nil]
    refine affine _ b q _ _ _ (fun k => ?_) (fun k => ?_) ?_
    · rw [after_of_writes_sub _ _ condOps_writes (by decide)]
      exact (before m c 50 (le_refl _)).hid b k
    · rw [arg m c main_arg7 (by decide) (by decide) (by decide)]; rfl
    · rw [arg m c main_arg8 (by decide) (by decide) (by decide)]; rfl
  refine funext fun j => ?_
  rw [eq_ix2 j]
  exact hbq (j 0) (j 1)

end Cert.Proof.RefRun

end
-- ==== Proof.Equation.lean ====
/- The kernel and the reference, from memories that agree on the arguments, both end with the same result array, the one that
   Spec.lean writes of the arguments, and with the arguments as launched. -/
module

public import proofs.«01_k».proof.Proof.KernelArray
public import proofs.«01_k».proof.Proof.RefRun

@[expose] public section

noncomputable section

namespace Cert.Proof.Equation

open Idealize.ShloMosaic Idealize.ShloMosaic.TcCoe Idealize.SL.Sem

/-- Equal arguments give the two programs equal result arrays. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    RefRun.out m' c = KernelArray.out m c := by
  unfold RefRun.out KernelArray.out RefRun.P KernelArray.P
  rw [h0, h1, h2, h3, h4, h5, h6, h7, h8, h9]

/-- The value claim. -/
theorem algebraic : Cert.algebraic_KernelIdeal_ReferenceIdeal := by
  intro m g m' g' _ h
  refine ⟨fun c => KernelArray.out m c, ?_, ?_⟩
  · exact (θ_run _ _ _).mono (fun r hr c => ⟨hr.1 c, hr.2 c⟩)
      (θ_run_and (KernelArray.run m g) (Cert.KernelIdeal.Gen.unchanged m g))
  · refine (θ_run _ _ _).mono (fun r hr c => ⟨?_, (hr c).2⟩) (RefFrame.run m' g')
    obtain ⟨h0, h1, h2, h3, h4, h5, h6, h7, h8, h9⟩ := h c
    exact (hr c).1.trans ((RefRun.final_eq m' c).trans (out_eq m m' c h0 h1 h2 h3 h4 h5 h6 h7 h8 h9))

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ, RefFrame.quiescent, trivial,
    Equation.algebraic⟩⟩

end Cert.Proof

end
